-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S4x1024x1024 : Shape := ⟨3, ![4, 1024, 1024]⟩
abbrev S4x1024x2048 : Shape := ⟨3, ![4, 1024, 2048]⟩
abbrev S3x1024x1024 : Shape := ⟨3, ![3, 1024, 1024]⟩
abbrev S2x1024x1024 : Shape := ⟨3, ![2, 1024, 1024]⟩
abbrev S3 : Shape := ⟨1, ![3]⟩
abbrev S_ : Shape := ⟨0, ![]⟩
abbrev S5 : Shape := ⟨1, ![5]⟩
abbrev S1 : Shape := ⟨1, ![1]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024x2048 : Shape := ⟨3, ![1, 1024, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S1024x2048, .f32⟩
  | .local _ .vmem, ⟨1, _⟩ => ⟨S4x1024x1024, .bf16⟩
  | .local _ .vmem, ⟨2, _⟩ => ⟨S4x1024x2048, .bf16⟩
  | .local _ .vmem, ⟨3, _⟩ => ⟨S3x1024x1024, .bf16⟩
  | .local _ .vmem, ⟨4, _⟩ => ⟨S2x1024x1024, .f32⟩
  | .local _ .vmem, ⟨5, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32_18 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32 : BitVec 32 := 1024#32
  let v36 : BitVec 32 := Scalar.muli v13 c1024_i32
  let v37 : BitVec 32 := Scalar.addi v36 c0_i32_18
  let c0_i32_24 : BitVec 32 := 0#32
  ![v37.toNat, 0]
def k0_dev1 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v51 : BitVec 32 := Scalar.addi v2 c1_i32_30
  let c4_i32_31 : BitVec 32 := 4#32
  let c0_i32_32 : BitVec 32 := 0#32
  let v52 : BitVec 1 := Scalar.cmpi .eq c4_i32_31 c0_i32_32
  let c1_i32_33 : BitVec 32 := 1#32
  let v53 : BitVec 32 := Scalar.select v52 c1_i32_33 c4_i32_31
  let v54 : BitVec 32 := Scalar.remsi v51 v53
  let c0_i32_35 : BitVec 32 := 0#32
  let v56 : BitVec 1 := Scalar.cmpi .slt v54 c0_i32_35
  let c0_i32_36 : BitVec 32 := 0#32
  let v57 : BitVec 1 := Scalar.cmpi .slt v53 c0_i32_36
  let v58 : BitVec 1 := Scalar.xori v56 v57
  let c0_i32_34 : BitVec 32 := 0#32
  let v55 : BitVec 1 := Scalar.cmpi .ne v54 c0_i32_34
  let v59 : BitVec 1 := Scalar.andi v58 v55
  let v60 : BitVec 32 := Scalar.addi v54 v53
  let v61 : BitVec 32 := Scalar.select v59 v60 v54
  let c1_i32_38 : BitVec 32 := 1#32
  let v62 : BitVec 32 := Scalar.muli v61 c1_i32_38
  let v63 : BitVec 32 := Scalar.addi c0_i32_39 v62
  v63.toNat
def k0_dev2 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_40 : BitVec 32 := 2#32
  let v64 : BitVec 32 := Scalar.addi v2 c2_i32_40
  let c4_i32_41 : BitVec 32 := 4#32
  let c0_i32_42 : BitVec 32 := 0#32
  let v65 : BitVec 1 := Scalar.cmpi .eq c4_i32_41 c0_i32_42
  let c1_i32_43 : BitVec 32 := 1#32
  let v66 : BitVec 32 := Scalar.select v65 c1_i32_43 c4_i32_41
  let v67 : BitVec 32 := Scalar.remsi v64 v66
  let c0_i32_45 : BitVec 32 := 0#32
  let v69 : BitVec 1 := Scalar.cmpi .slt v67 c0_i32_45
  let c0_i32_46 : BitVec 32 := 0#32
  let v70 : BitVec 1 := Scalar.cmpi .slt v66 c0_i32_46
  let v71 : BitVec 1 := Scalar.xori v69 v70
  let c0_i32_44 : BitVec 32 := 0#32
  let v68 : BitVec 1 := Scalar.cmpi .ne v67 c0_i32_44
  let v72 : BitVec 1 := Scalar.andi v71 v68
  let v73 : BitVec 32 := Scalar.addi v67 v66
  let v74 : BitVec 32 := Scalar.select v72 v73 v67
  let c1_i32_48 : BitVec 32 := 1#32
  let v75 : BitVec 32 := Scalar.muli v74 c1_i32_48
  let v76 : BitVec 32 := Scalar.addi c0_i32_49 v75
  v76.toNat
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_50 : BitVec 32 := 3#32
  let v77 : BitVec 32 := Scalar.addi v2 c3_i32_50
  let c4_i32_51 : BitVec 32 := 4#32
  let c0_i32_52 : BitVec 32 := 0#32
  let v78 : BitVec 1 := Scalar.cmpi .eq c4_i32_51 c0_i32_52
  let c1_i32_53 : BitVec 32 := 1#32
  let v79 : BitVec 32 := Scalar.select v78 c1_i32_53 c4_i32_51
  let v80 : BitVec 32 := Scalar.remsi v77 v79
  let c0_i32_55 : BitVec 32 := 0#32
  let v82 : BitVec 1 := Scalar.cmpi .slt v80 c0_i32_55
  let c0_i32_56 : BitVec 32 := 0#32
  let v83 : BitVec 1 := Scalar.cmpi .slt v79 c0_i32_56
  let v84 : BitVec 1 := Scalar.xori v82 v83
  let c0_i32_54 : BitVec 32 := 0#32
  let v81 : BitVec 1 := Scalar.cmpi .ne v80 c0_i32_54
  let v85 : BitVec 1 := Scalar.andi v84 v81
  let v86 : BitVec 32 := Scalar.addi v80 v79
  let v87 : BitVec 32 := Scalar.select v85 v86 v80
  let c1_i32_58 : BitVec 32 := 1#32
  let v88 : BitVec 32 := Scalar.muli v87 c1_i32_58
  let v89 : BitVec 32 := Scalar.addi c0_i32_59 v88
  v89.toNat
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_75 : BitVec 32 := 1#32
  let v101 : BitVec 32 := Scalar.muli v13 c1_i32_75
  let v102 : BitVec 32 := Scalar.addi c0_i32_76 v101
  v102.toNat
def k0_off2 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1024_i32_81 : BitVec 32 := 1024#32
  let v111 : BitVec 32 := Scalar.muli v24 c1024_i32_81
  let c0_i32_82 : BitVec 32 := 0#32
  let v112 : BitVec 32 := Scalar.addi v111 c0_i32_82
  let c0_i32_87 : BitVec 32 := 0#32
  ![v112.toNat, 0]
def k0_dev5 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_102 : BitVec 32 := 1#32
  let v129 : BitVec 32 := Scalar.muli v13 c1_i32_102
  let v130 : BitVec 32 := Scalar.addi c0_i32_103 v129
  v130.toNat
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_122 : BitVec 32 := 1#32
  let v150 : BitVec 32 := Scalar.muli v24 c1_i32_122
  let v151 : BitVec 32 := Scalar.addi c0_i32_123 v150
  v151.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_135 : BitVec 32 := 1024#32
  let v167 : BitVec 32 := Scalar.muli v2 c1024_i32_135
  let c0_i32_136 : BitVec 32 := 0#32
  let v168 : BitVec 32 := Scalar.addi v167 c0_i32_136
  let c0_i32_141 : BitVec 32 := 0#32
  ![v168.toNat, 0]
def k0_dev7 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_156 : BitVec 32 := 1#32
  let v185 : BitVec 32 := Scalar.muli v35 c1_i32_156
  let v186 : BitVec 32 := Scalar.addi c0_i32_157 v185
  v186.toNat
def k0_dev8 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_166 : BitVec 32 := 1#32
  let v195 : BitVec 32 := Scalar.muli v35 c1_i32_166
  let v196 : BitVec 32 := Scalar.addi c0_i32_167 v195
  v196.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_203 : BitVec 32 := 1024#32
  let v249 : BitVec 32 := Scalar.muli v2 c1024_i32_203
  let c0_i32_204 : BitVec 32 := 0#32
  ![v249.toNat, 0]
def k0_off5 (d0 : Dev nD) (c1_i32_182 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v216 : BitVec 32 := Scalar.subi v2 c1_i32_182
  let c4_i32_183 : BitVec 32 := 4#32
  let c0_i32_184 : BitVec 32 := 0#32
  let v217 : BitVec 1 := Scalar.cmpi .eq c4_i32_183 c0_i32_184
  let c1_i32_185 : BitVec 32 := 1#32
  let v218 : BitVec 32 := Scalar.select v217 c1_i32_185 c4_i32_183
  let v219 : BitVec 32 := Scalar.remsi v216 v218
  let c0_i32_187 : BitVec 32 := 0#32
  let v221 : BitVec 1 := Scalar.cmpi .slt v219 c0_i32_187
  let c0_i32_188 : BitVec 32 := 0#32
  let v222 : BitVec 1 := Scalar.cmpi .slt v218 c0_i32_188
  let v223 : BitVec 1 := Scalar.xori v221 v222
  let c0_i32_186 : BitVec 32 := 0#32
  let v220 : BitVec 1 := Scalar.cmpi .ne v219 c0_i32_186
  let v224 : BitVec 1 := Scalar.andi v223 v220
  let v225 : BitVec 32 := Scalar.addi v219 v218
  let v226 : BitVec 32 := Scalar.select v224 v225 v219
  let c1024_i32_220 : BitVec 32 := 1024#32
  let v264 : BitVec 32 := Scalar.muli v226 c1024_i32_220
  let c0_i32_221 : BitVec 32 := 0#32
  ![v264.toNat, 0]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x4096, .bf16⟩
  | .hbm, ⟨3, _⟩ => ⟨S4096x2048, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Steps.lean ====
/-
  One step of a program at a time, stated for memrefs owned at known contents: a load and a store through a part of a
  memref, a local copy issued and waited for, a memref read at a squeezed shape.
-/
module

public import Idealize.ShloMosaic.Lib.Memref
public import Idealize.ShloMosaic.Lib.Transfers
public import Idealize.ShloMosaic.Lib.Rounds
public import Idealize.ShloMosaic.Lib.Tactic

@[expose] public section

noncomputable section

namespace Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}

local notation "𝕄" => MT nD τ sig Ix Val Name U Lvl

/-! ## Contents at a squeezed shape -/

/-- The same elements, in the same order, at another shape of the same size. -/
def recast {s s' : Shape} {α : Type} (h : s'.numel = s.numel) (X : s.Idx → α) : s'.Idx → α :=
  fun j => X (Shape.reshapeEquiv h j)

theorem recast_back {s s' : Shape} {α : Type} (h : s'.numel = s.numel) (h' : s.numel = s'.numel) (X : s'.Idx → α) :
    recast h (recast h' X) = X := by
  funext j
  show X (Shape.reshapeEquiv h' (Shape.reshapeEquiv h j)) = X j
  congr 1
  apply s'.rowMajor.injective
  apply Fin.ext
  rw [Shape.rowMajor_reshapeEquiv, Shape.rowMajor_reshapeEquiv]

section
variable (c : Thread nD τ) {sp : Space} {s s' : Shape} {e : EltTy}

/-- Owning a squeezed memref is owning the memref, its contents read in the squeezed order. -/
theorem owns_squeeze (m : Memref sig c.2.kind sp s e) (q : PosShare TreeShare) (h : s.Squeezes s') (X : s.Idx → Val e) :
    (owns c m q X : sProp 𝕄) ⊢ owns c (m.squeeze s' h) q (recast h.numel_eq X) := by
  unfold owns
  iintro ⟨%f, %hf, H⟩
  iexists f
  isplitr
  · ipureintro; rw [← hf]; rfl
  · simp only [Memref.view_squeeze, View.set_reshape]; iexact H

theorem owns_unsqueeze (m : Memref sig c.2.kind sp s e) (q : PosShare TreeShare) (h : s.Squeezes s') (Y : s'.Idx → Val e) :
    (owns c (m.squeeze s' h) q Y : sProp 𝕄) ⊢ owns c m q (recast h.numel_eq.symm Y) := by
  unfold owns
  iintro ⟨%f, %hf, H⟩
  iexists f
  isplitr
  · ipureintro
    rw [← hf]
    exact (recast_back h.numel_eq.symm h.numel_eq (m.view.read Val f)).symm
  · simp only [Memref.view_squeeze, View.set_reshape]; iexact H

/-- A part of an owned memref; the rest is given up. -/
theorem owns_part (m : Memref sig c.2.kind sp s e) (q : PosShare TreeShare) (r : Rect s) (hr : ∀ a, r.stride a = 1) (X : s.Idx → Val e) :
    (owns c m q X : sProp 𝕄) ⊢ owns c (m.slice r hr) q (fun j => X (r.emb j)) := by
  unfold owns
  iintro ⟨%f, %hf, H⟩
  iexists f
  isplitr
  · ipureintro; rw [← hf]; rfl
  · ihave H' := (pointsTo_split_subset (I := (m.view.slice r).set) (View.set_slice_subset _ _)).1 $$ H
    icases H' with ⟨H, -⟩
    iexact H

end

section
variable [Preorder Lvl] {defs : Defs nD τ sig Val Λ} (𝒱 : Variants) (c : Thread nD τ) (bd : Option 𝒱.V)
variable {sp sp' : Space} {s : Shape} {e : EltTy}
variable {α : Type} {Q : α → sProp (MT nD τ sig Ix Val Name U Lvl)}

/-- A load through the part of a memref that is held. -/
theorem load_held {cs : CoreSpace} {m : Memref sig c.2.kind cs s e} {r : Rect s} (hr : ∀ a, r.stride a = 1) {hl : m.view.LoadsAt r.toLoadRect}
    {k : (r.shape.Idx → Val e) → Prog (TpuEff nD τ sig Val Λ c.2) α} (q : PosShare TreeShare) (X : r.shape.Idx → Val e) :
    (owns c (m.slice r hr) q X : sProp 𝕄)
      ⊢ iprop((owns c (m.slice r hr) q X -∗ wp frame (wpE defs 𝒱 c bd) Set.univ (k X) Q)
        -∗ wp frame (wpE defs 𝒱 c bd) Set.univ (.op (.load m r.toLoadRect hl) k) Q) := by
  unfold owns
  iintro ⟨%f, %hf, H⟩ Hk
  iapply (wp_load_rect 𝒱 c bd Set.univ (m := m) (r := r) (q := q) (f := f) (S := (m.view.slice r).set) subset_rfl) $$ [H]
  · iexact H
  iintro H
  rw [show (m.access r).read Val f = X from hf]
  iapply Hk
  iexists f
  isplitr; · ipureintro; exact hf
  iexact H

/-- A load through a part of a memref held whole. -/
theorem load_part {cs : CoreSpace} {m : Memref sig c.2.kind cs s e} {r : Rect s} {hl : m.view.LoadsAt r.toLoadRect}
    {k : (r.shape.Idx → Val e) → Prog (TpuEff nD τ sig Val Λ c.2) α} (q : PosShare TreeShare) (X : s.Idx → Val e) :
    (owns c m q X : sProp 𝕄)
      ⊢ iprop((owns c m q X -∗ wp frame (wpE defs 𝒱 c bd) Set.univ (k fun j => X (r.emb j)) Q)
        -∗ wp frame (wpE defs 𝒱 c bd) Set.univ (.op (.load m r.toLoadRect hl) k) Q) := by
  unfold owns
  iintro ⟨%f, %hf, H⟩ Hk
  iapply (wp_load_rect 𝒱 c bd Set.univ (m := m) (r := r) (q := q) (f := f) (S := m.view.set) (View.set_slice_subset _ _)) $$ [H]
  · iexact H
  iintro H
  rw [show (m.access r).read Val f = fun j => X (r.emb j) from by rw [← hf]; rfl]
  iapply Hk
  iexists f
  isplitr; · ipureintro; exact hf
  iexact H

/-- A store over the part of a memref that is held. -/
theorem store_held {cs : CoreSpace} {m : Memref sig c.2.kind cs s e} {r : Rect s} (hr : ∀ a, r.stride a = 1) {w : r.shape.Idx → Val e}
    {hx : (m.access r).Stores Finset.univ} {hm : Finset.univ = Finset.univ ∨ ∀ a, r.stride a = 1}
    {k : PUnit → Prog (TpuEff nD τ sig Val Λ c.2) α} (X : r.shape.Idx → Val e) :
    (owns c (m.slice r hr) fullShare X : sProp 𝕄)
      ⊢ iprop((owns c (m.slice r hr) fullShare w -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  iapply (wp_store 𝒱 c bd Set.univ (m := m) (r := r) (f := f) (S := (m.view.slice r).set) subset_rfl) $$ [H]
  · iexact H
  iintro H
  iapply Hk
  iexists _
  isplitr
  rotate_left
  · iexact H
  · ipureintro; exact View.read_write_univ _ _

/-- A store over a part of a memref held whole. -/
theorem store_part {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} (X : s.Idx → Val e) :
    (owns c m fullShare X : sProp 𝕄)
      ⊢ iprop((owns c m fullShare (r.overlay X w) -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  iapply (wp_store 𝒱 c bd Set.univ (m := m) (r := r) (f := f) (S := m.view.set) (View.set_slice_subset _ _)) $$ [H]
  · iexact H
  iintro H
  iapply Hk
  iexists _
  isplitr
  rotate_left
  · iexact H
  · ipureintro
    funext x
    by_cases hx : x ∈ r.set
    · rw [← Rect.map_emb_univ, Finset.mem_map] at hx
      obtain ⟨j, -, rfl⟩ := hx
      rw [Rect.overlay_emb]
      exact View.read_slice_write_emb r f w (Finset.mem_univ j)
    · rw [Rect.overlay_of_not_mem _ _ _ hx, ← hf]
      exact View.read_slice_write_of_not_mem r f w Finset.univ (by rwa [Rect.map_emb_univ])

/-! ## Local copies -/

variable (EC : UEmb Counters (MT nD τ sig Ix Val Name U Lvl))

/-- A local copy issued: the memrefs' contents go with the copy. -/
theorem copy_start [Infinite Name] [EC.LandsIn (upEmb : UEmb _ 𝕄)] {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} (ι : Ix) (N : ℕ) (hN : dst.view.amount sm = N) (hN0 : 0 < N)
    (q : PosShare TreeShare) (X Y : s.Idx → Val e) :
    iprop(owns c src q X ∗ owns c dst fullShare Y ∗ semVal (c, sm) 0)
      ⊢ iprop((Transfers.Flight EC c sm ι N (owns c dst fullShare X)
            -∗ wp frame (wpE defs 𝒱 c bd) Set.univ (k ⟨⟩) Q)
          -∗ wp frame (wpE defs 𝒱 c bd) Set.univ (.op (.enqueueDma src (.here dst) sm hsrc hdst hsem) k) Q) := by
  unfold owns
  iintro ⟨⟨%f, %hf, Hs⟩, ⟨%g, %hg, Hd⟩, Hv⟩ Hk
  iapply (Transfers.wp_dmaLocal EC 𝒱 c bd (q := q) (fs := f) (fd := g) ι N hN hN0 (Sd := dst.view.set) subset_rfl) $$ [Hs Hd Hv]
  · isplitl [Hs]; · iexact Hs
    isplitl [Hd] <;> iassumption
  iintro HF
  iapply Hk
  iapply (Transfers.Flight_mono EC c ?_) $$ HF
  iintro ⟨H, -⟩
  iexists _
  isplitr
  rotate_left
  · iexact H
  · ipureintro; rw [← hf]; exact View.read_write_univ _ _

/-- The wait for a local copy. -/
theorem copy_wait [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N) {D : sProp 𝕄}
    {O : CellTallies nD τ sig Ix} {W : Waits sig Ix} :
    iprop(Transfers.Flight EC c (.dma sem) ι N D ∗ owes c O W ∗ MayWait c (.dma sem) ι O)
      ⊢ iprop((iprop(D ∗ semVal (c, .dma sem) 0 ∗ owes c O (insert (SemLoc.dma sem, ι) W)) -∗ wp frame (wpE defs 𝒱 c bd) Set.univ (k ⟨⟩) Q)
          -∗ wp frame (wpE defs 𝒱 c bd) Set.univ (.op (.waitDma2 sem srcw dstw hsrc hdst) k) Q) :=
  Transfers.wp_waitLocalO EC 𝒱 c bd ι hN

end

/-! ## A memref held in parts -/

theorem unit_disjoint {s : Shape} {off size off' size' : Fin s.rank → Nat} {inb inb'} (a : Fin s.rank)
    (h : off a + size a ≤ off' a ∨ off' a + size' a ≤ off a) :
    Disjoint (Rect.unit (s := s) off size inb).set (Rect.unit (s := s) off' size' inb').set := by
  rw [Finset.disjoint_left]
  intro i h₁ h₂
  have h₁ := (Rect.mem_set_unit.mp h₁) a
  have h₂ := (Rect.mem_set_unit.mp h₂) a
  omega

section
variable (c : Thread nD τ) {sp : Space} {s : Shape} {e : EltTy}

theorem glue_any [∀ e, Nonempty (Val e)] {T : Type} [DecidableEq T] (ℓ : Loc nD τ sig) (q : PosShare TreeShare) (S : Finset T)
    (K : T → Finset (Idx ℓ)) (hd : ∀ t ∈ S, ∀ t' ∈ S, t ≠ t' → Disjoint (K t) (K t')) :
    (bigSep S fun t => iprop(∃ f : Buf Val ℓ, ℓ ↦[K t]{q} f) : sProp 𝕄) ⊢ iprop(∃ f : Buf Val ℓ, ℓ ↦[S.biUnion K]{q} f) := by
  classical
  induction S using Finset.induction_on with
  | empty =>
    iintro -
    iexists fun _ => Classical.arbitrary _
    rw [Finset.biUnion_empty, pointsTo_empty]; iempintro
  | insert t S ht ih =>
    rw [bigSep_insert ht, Finset.biUnion_insert]
    have hdS : Disjoint (K t) (S.biUnion K) := (Finset.disjoint_biUnion_right _ _ _).mpr fun t' ht' =>
      hd t (Finset.mem_insert_self _ _) t' (Finset.mem_insert_of_mem ht') fun h => ht (h ▸ ht')
    refine (show iprop((∃ f : Buf Val ℓ, ℓ ↦[K t]{q} f) ∗ bigSep S fun t => iprop(∃ f : Buf Val ℓ, ℓ ↦[K t]{q} f)) ⊢ _ from ?_)
    iintro ⟨⟨%f, Ht⟩, HS⟩
    ihave H := (ih fun t ht t' ht' => hd t (Finset.mem_insert_of_mem ht) t' (Finset.mem_insert_of_mem ht')) $$ HS
    icases H with ⟨%g, HS⟩
    iexists _
    iapply (pointsTo_join hdS (f := f) (g := g))
    isplitl [Ht] <;> iassumption

/-- Owned, at contents not named. -/
def some_owned (m : Memref sig c.2.kind sp s e) : sProp 𝕄 := iprop(∃ X : s.Idx → Val e, owns c m fullShare X)

theorem some_intro (m : Memref sig c.2.kind sp s e) (X : s.Idx → Val e) : (owns c m fullShare X : sProp 𝕄) ⊢ some_owned c m := by
  unfold some_owned; iintro H; iexists X; iexact H

instance some_owned_storable (m : Memref sig c.2.kind sp s e) : BI.Storable (upEmb : UEmb _ 𝕄) (some_owned c m : sProp 𝕄) := by
  unfold some_owned; infer_instance

theorem some_elim (m : Memref sig c.2.kind sp s e) :
    (some_owned c m : sProp 𝕄) ⊢ iprop(∃ f : Buf Val (m.view.loc c), m.view.loc c ↦[m.view.set]{fullShare} f) := by
  unfold some_owned owns
  iintro ⟨%X, %f, -, H⟩; iexists f; iexact H

section
variable (m : Memref sig c.2.kind sp s e) {T : Type} [Fintype T] [DecidableEq T] (r : T → Rect s) (hr : ∀ t a, (r t).stride a = 1)
  (hd : ∀ t t', t ≠ t' → Disjoint (r t).set (r t').set)
  (hcov : ∀ x : s.Idx, ∃ t, x ∈ (r t).set)
include hd hcov

theorem split_parts (g : m.view.ty.Contents Val) :
    (m.view.loc c ↦[m.view.set]{fullShare} g : sProp 𝕄) ⊢ bigSep Finset.univ fun t => some_owned c (m.slice (r t) (hr t)) := by
  have hc : (Finset.univ : Finset T).biUnion (fun t => (r t).set) = Finset.univ :=
    Finset.eq_univ_iff_forall.mpr fun x => by
      obtain ⟨t, ht⟩ := hcov x
      exact Finset.mem_biUnion.mpr ⟨t, Finset.mem_univ _, ht⟩
  rw [pointsTo_rects c m fullShare r hr hd hc g]
  exact bigSep_mono fun t _ => some_intro c _ _

theorem glue_parts [∀ e, Nonempty (Val e)] :
    (bigSep Finset.univ fun t => some_owned c (m.slice (r t) (hr t)) : sProp 𝕄)
      ⊢ iprop(∃ f : Buf Val (m.view.loc c), m.view.loc c ↦[m.view.set]{fullShare} f) := by
  have hset : m.view.set = (Finset.univ : Finset T).biUnion fun t => (m.view.slice (r t)).set := by
    ext i; constructor
    · intro hi
      rw [View.set, Finset.mem_map] at hi
      obtain ⟨x, -, rfl⟩ := hi
      obtain ⟨t, hx⟩ := hcov x
      exact Finset.mem_biUnion.mpr ⟨t, Finset.mem_univ _, by rw [View.set_slice]; exact Finset.mem_map_of_mem _ hx⟩
    · intro hi
      obtain ⟨t, -, hi⟩ := Finset.mem_biUnion.mp hi
      exact View.set_slice_subset _ _ hi
  rw [hset]
  refine (bigSep_mono fun t _ => some_elim c _).trans (glue_any (m.view.loc c) fullShare Finset.univ (fun t => (m.view.slice (r t)).set) ?_)
  intro t _ t' _ htt
  rw [View.set_slice, View.set_slice]
  exact (Finset.disjoint_map _).mpr (hd t t' htt)
end

/-- A part held at `X` splits into two parts of it. -/
theorem part_two (m : Memref sig c.2.kind sp s e) (R r r' : Rect s) (hR : ∀ a, R.stride a = 1) (hr : ∀ a, r.stride a = 1) (hr' : ∀ a, r'.stride a = 1)
    (g : r.shape.Idx → R.shape.Idx) (g' : r'.shape.Idx → R.shape.Idx)
    (hg : ∀ j, r.emb j = R.emb (g j)) (hg' : ∀ j, r'.emb j = R.emb (g' j)) (hd : Disjoint r.set r'.set) (X : R.shape.Idx → Val e) :
    (owns c (m.slice R hR) fullShare X : sProp 𝕄)
      ⊢ iprop(owns c (m.slice r hr) fullShare (fun j => X (g j)) ∗ owns c (m.slice r' hr') fullShare (fun j => X (g' j))) := by
  have hs : ∀ (q : Rect s) (g : q.shape.Idx → R.shape.Idx), (∀ j, q.emb j = R.emb (g j)) → q.set ⊆ R.set := by
    intro q g hg x hx
    rw [← Rect.map_emb_univ, Finset.mem_map] at hx ⊢
    obtain ⟨j, -, rfl⟩ := hx
    exact ⟨g j, Finset.mem_univ _, (hg j).symm⟩
  have hsub : (m.view.slice r).set ⊆ (m.view.slice R).set := by
    rw [View.set_slice, View.set_slice]; exact Finset.map_subset_map.mpr (hs r g hg)
  have hsub' : (m.view.slice r').set ⊆ (m.view.slice R).set \ (m.view.slice r).set := by
    rw [Finset.subset_sdiff, View.set_slice, View.set_slice, View.set_slice]
    exact ⟨Finset.map_subset_map.mpr (hs r' g' hg'), (Finset.disjoint_map _).mpr hd.symm⟩
  unfold owns
  iintro ⟨%f, %hf, H⟩
  ihave H' := (pointsTo_split_subset hsub).1 $$ H
  icases H' with ⟨H₁, H₂⟩
  ihave H'' := (pointsTo_split_subset hsub').1 $$ H₂
  icases H'' with ⟨H₂, -⟩
  isplitl [H₁]
  · iexists f; isplitr
    · ipureintro; rw [← hf]; funext j
      show m.view.read Val f (r.emb j) = m.view.read Val f (R.emb (g j))
      rw [hg]
    · iexact H₁
  · iexists f; isplitr
    · ipureintro; rw [← hf]; funext j
      show m.view.read Val f (r'.emb j) = m.view.read Val f (R.emb (g' j))
      rw [hg']
    · iexact H₂

/-- Two parts that make up a third. -/
theorem part_join (m : Memref sig c.2.kind sp s e) (R r r' : Rect s) (hR : ∀ a, R.stride a = 1) (hr : ∀ a, r.stride a = 1) (hr' : ∀ a, r'.stride a = 1)
    (hu : R.set = r.set ∪ r'.set) (hd : Disjoint r.set r'.set) :
    iprop(some_owned c (m.slice r hr) ∗ some_owned c (m.slice r' hr')) ⊢ (some_owned c (m.slice R hR) : sProp 𝕄) := by
  iintro ⟨H₁, H₂⟩
  ihave H₁' := (some_elim c _) $$ H₁
  ihave H₂' := (some_elim c _) $$ H₂
  icases H₁' with ⟨%f, H₁⟩
  icases H₂' with ⟨%f', H₂⟩
  iapply (some_intro c (m.slice R hR) _)
  iapply (owns_intro c (m.slice R hR) fullShare (((m.view.slice r').set).piecewise f' f))
  have hset : (m.slice R hR).view.set = (m.view.slice r).set ∪ (m.view.slice r').set := by
    show (m.view.slice R).set = _
    rw [View.set_slice, View.set_slice, View.set_slice, hu, Finset.map_union]
  have hdj : Disjoint (m.view.slice r).set (m.view.slice r').set := by
    rw [View.set_slice, View.set_slice]; exact (Finset.disjoint_map _).mpr hd
  rw [hset]
  iapply (pointsTo_join hdj)
  isplitl [H₁] <;> iassumption

end

section
variable [Preorder Lvl] {defs : Defs nD τ sig Val Λ} (𝒱 : Variants) (c : Thread nD τ) (bd : Option 𝒱.V)
variable {D : Type} [DecidableEq D]
variable (E : Emb (Rounds.URounds (GSem nD τ sig) D) (MT nD τ sig Ix Val Name U Lvl)) (Rd : Rounds.Schedule (GSem nD τ sig) D (MT nD τ sig Ix Val Name U Lvl))
variable {sp sp' : Space} {s : Shape} {e : EltTy}
variable {α : Type} {Q : α → sProp (MT nD τ sig Ix Val Name U Lvl)}

/-- A copy to another device: the source goes with the sender's duty, the target, rewritten to the source's contents,
    with the receiver's. -/
theorem send_held [E.LandsIn (upEmb : UEmb _ 𝕄)] [∀ g r d, BI.Storable (upEmb : UEmb _ 𝕄) (Rd.payload g r d)]
    {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {d₁ d₂ : D} {κ₁ κ₂ : Name}
    (hd₁ : d₁ ∈ Rd.duties (c, sS) 0) (hd₂ : d₂ ∈ Rd.duties (c', sem) 0)
    (ι : Ix) (N : ℕ) (hN : dst.view.amount sem = N)
    (hk₁ : Rd.amount (c, sS) 0 d₁ = N) (hk₂ : Rd.amount (c', sem) 0 d₂ = N)
    (O : CellTallies nD τ sig Ix) {W : Waits sig Ix} (X Y : s.Idx → Val e)
    (hpay₁ : (owns c src fullShare X : sProp 𝕄) ⊢ Rd.payload (c, sS) 0 d₁)
    (hpay₂ : (owns c' dst fullShare X : sProp 𝕄) ⊢ Rd.payload (c', sem) 0 d₂) (hr : τ.routes c c' = true := by routes) :
    iprop(Rounds.cellInv E Rd κ₁ (c, sS) ∗ Rounds.cellInv E Rd κ₂ (c', sem)
        ∗ owns c src fullShare X ∗ owns c' dst fullShare Y
        ∗ owes c (O + tallyAt (c', sem) ι N) W
        ∗ Rounds.dutyTok E (c, sS) 0 d₁ ∗ Rounds.reached E (c, sS) 0
        ∗ Rounds.dutyTok E (c', sem) 0 d₂ ∗ Rounds.reached E (c', sem) 0)
      ⊢ iprop(((cred (tallyAt (c, sS) ι N) ∗ owes c O W) -∗ wp frame (wpE defs 𝒱 c bd) Set.univ (k ⟨⟩) Q)
          -∗ wp frame (wpE defs 𝒱 c bd) Set.univ (.op (.enqueueDma src (.remote c' dst sS hsc) sem hsrc hdst hsem) k) Q) := by
  iintro ⟨Hi₁, Hi₂, Hs, Hd, HO, Ht₁, Hr₁, Ht₂, Hr₂⟩ Hk
  unfold owns
  icases Hs with ⟨%f, %hf, Hs⟩
  icases Hd with ⟨%g, %hg, Hd⟩
  iapply (Rounds.wp_send_pointsTo 𝒱 E Rd c bd (κ₁ := κ₁) (κ₂ := κ₂) (r₁ := 0) (r₂ := 0) (d₁ := d₁) (d₂ := d₂) (q := fullShare) (fs := f) (fd := g)
    hd₁ hd₂ ι ι N hN hk₁ hk₂ O rfl (W := W)
    (by rw [← hf] at hpay₁; exact (owns_intro c src fullShare f).trans hpay₁)
    (by
      refine (owns_intro c' dst fullShare _).trans ?_
      rw [View.read_write_univ, hf]; exact hpay₂) hr) $$ [Hi₁ Hi₂ Hs Hd HO Ht₁ Hr₁ Ht₂ Hr₂]
  · isplitl [Hi₁]; · iexact Hi₁
    isplitl [Hi₂]; · iexact Hi₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iexact Hk

end

end Cert.Steps

end
-- ==== Proof.Protocol.lean ====
/-
  The protocol of the kernel: what each device holds, sends and receives, and on which semaphore.

  Device `c` first gives its three landing slots to the three devices that will write them: its signal to the device `d`
  places on hands over slot `3 - d` (barrier semaphore, one unit each), and it waits for three units, which bring it the slots
  it will itself write on the others. It then sends five messages, numbered in program order: 0 and 1 the two halves of the
  rows the next device needs, 2 the rows the device two places on needs, 3 and 4 the two halves for the device three
  places on. Message `n` leaves on send semaphore `n` and lands on receive semaphore `n`; a landing hands over the chunk of
  the landing buffer at the sender's rows, the send semaphore hands the sent chunk back. Everything happens once, in one round.
-/
module

public import proofs.«01_k».proof.Proof.Steps
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Own

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev EQ : Emb (UB × Counters) (MT nD τ sig Unit (Elt F) ℕ UU ℕ) := embR
abbrev ER : Emb UB (MT nD τ sig Unit (Elt F) ℕ UU ℕ) := (Emb.inl : Emb UB (UB × Counters)).trans EQ
abbrev EC : UEmb Counters (MT nD τ sig Unit (Elt F) ℕ UU ℕ) := countersEmb

variable (m : (ℓ : Loc nD τ sig) → Buf (Elt F) ℓ) (ρ : Dev nD → PrngReg)

/-! ## Devices -/

set_option backward.proofsInPublic true in
/-- The device `d` places after `c`. -/
def rot (d : ℕ) (c : Dev nD) : Dev nD := ⟨(c.val + d) % 4, Nat.mod_lt _ (by decide)⟩

theorem rot_rot31 (c : Dev nD) : rot 3 (rot 1 c) = c := by revert c; decide
theorem rot_rot22 (c : Dev nD) : rot 2 (rot 2 c) = c := by revert c; decide
theorem rot_rot13 (c : Dev nD) : rot 1 (rot 3 c) = c := by revert c; decide

theorem dev1_eq (c : Dev nD) : (⟨k0_dev1 c, k0_dev1_lt c⟩ : Dev nD) = rot 1 c := by revert c; decide +kernel
theorem dev2_eq (c : Dev nD) : (⟨k0_dev2 c, k0_dev2_lt c⟩ : Dev nD) = rot 2 c := by revert c; decide +kernel
theorem dev3_eq (c : Dev nD) : (⟨k0_dev3 c, k0_dev3_lt c⟩ : Dev nD) = rot 3 c := by revert c; decide +kernel
theorem dev4_eq (c : Dev nD) : (⟨k0_dev4 c, k0_dev4_lt c⟩ : Dev nD) = rot 1 c := by revert c; decide +kernel
theorem dev5_eq (c : Dev nD) : (⟨k0_dev5 c, k0_dev5_lt c⟩ : Dev nD) = rot 1 c := by revert c; decide +kernel
theorem dev6_eq (c : Dev nD) : (⟨k0_dev6 c, k0_dev6_lt c⟩ : Dev nD) = rot 2 c := by revert c; decide +kernel
theorem dev7_eq (c : Dev nD) : (⟨k0_dev7 c, k0_dev7_lt c⟩ : Dev nD) = rot 3 c := by revert c; decide +kernel
theorem dev8_eq (c : Dev nD) : (⟨k0_dev8 c, k0_dev8_lt c⟩ : Dev nD) = rot 3 c := by revert c; decide +kernel

/-! ## Memory: the buffers and their chunks -/

abbrev xA : Memref sig .tc .hbm S4096x1024 .f32 := Memref.whole main_arg0
abbrev wA : Memref sig .tc .hbm S4096x2048 .f32 := Memref.whole main_arg1
abbrev oM : Memref sig .tc .vmem S1024x2048 .f32 := Memref.whole cc0_stg0_0
abbrev xbM : Memref sig .tc .vmem S4x1024x1024 .bf16 := Memref.whole cc0_scratch0
abbrev wbM : Memref sig .tc .vmem S4x1024x2048 .bf16 := Memref.whole cc0_scratch1
abbrev cmM : Memref sig .tc .vmem S3x1024x1024 .bf16 := Memref.whole cc0_scratch2
abbrev xsM : Memref sig .tc .vmem S2x1024x1024 .f32 := Memref.whole cc0_scratch3
abbrev wsM : Memref sig .tc .vmem S1024x2048 .f32 := Memref.whole cc0_scratch4

-- the converted rows, four slots, slots 0 and 2 in halves
abbrev rX0a : Rect S4x1024x1024 := Rect.unit (s := S4x1024x1024) ![0, 0, 0] S1x512x1024.size inb_S4x1024x1024_S1x512x1024_0_0_0
abbrev rX0b : Rect S4x1024x1024 := Rect.unit (s := S4x1024x1024) ![0, 512, 0] S1x512x1024.size inb_S4x1024x1024_S1x512x1024_0_512_0
abbrev rX1 : Rect S4x1024x1024 := Rect.unit (s := S4x1024x1024) ![1, 0, 0] S1x1024x1024.size inb_S4x1024x1024_S1x1024x1024_1_0_0
abbrev rX2 : Rect S4x1024x1024 := Rect.unit (s := S4x1024x1024) ![2, 0, 0] S1x1024x1024.size inb_S4x1024x1024_S1x1024x1024_2_0_0
abbrev rX2a : Rect S4x1024x1024 := Rect.unit (s := S4x1024x1024) ![2, 0, 0] S1x512x1024.size inb_S4x1024x1024_S1x512x1024_2_0_0
abbrev rX2b : Rect S4x1024x1024 := Rect.unit (s := S4x1024x1024) ![2, 512, 0] S1x512x1024.size inb_S4x1024x1024_S1x512x1024_2_512_0
abbrev rX3 : Rect S4x1024x1024 := Rect.unit (s := S4x1024x1024) ![3, 0, 0] S1x1024x1024.size inb_S4x1024x1024_S1x1024x1024_3_0_0
abbrev X0a := xbM.slice rX0a (fun _ => rfl)
abbrev X0b := xbM.slice rX0b (fun _ => rfl)
abbrev X1 := xbM.slice rX1 (fun _ => rfl)
abbrev X2 := xbM.slice rX2 (fun _ => rfl)
abbrev X2a := xbM.slice rX2a (fun _ => rfl)
abbrev X2b := xbM.slice rX2b (fun _ => rfl)
abbrev X3 := xbM.slice rX3 (fun _ => rfl)
abbrev X0as : Memref sig .tc .vmem S512x1024 .bf16 := X0a.squeeze S512x1024 squeezes_S1x512x1024_S512x1024
abbrev X0bs : Memref sig .tc .vmem S512x1024 .bf16 := X0b.squeeze S512x1024 squeezes_S1x512x1024_S512x1024
abbrev X1s : Memref sig .tc .vmem S1024x1024 .bf16 := X1.squeeze S1024x1024 squeezes_S1x1024x1024_S1024x1024
abbrev X2as : Memref sig .tc .vmem S512x1024 .bf16 := X2a.squeeze S512x1024 squeezes_S1x512x1024_S512x1024
abbrev X2bs : Memref sig .tc .vmem S512x1024 .bf16 := X2b.squeeze S512x1024 squeezes_S1x512x1024_S512x1024

-- the landing buffer, three slots, slots 0 and 2 in halves
abbrev rC0a : Rect S3x1024x1024 := Rect.unit (s := S3x1024x1024) ![0, 0, 0] S1x512x1024.size inb_S3x1024x1024_S1x512x1024_0_0_0
abbrev rC0b : Rect S3x1024x1024 := Rect.unit (s := S3x1024x1024) ![0, 512, 0] S1x512x1024.size inb_S3x1024x1024_S1x512x1024_0_512_0
abbrev rC1 : Rect S3x1024x1024 := Rect.unit (s := S3x1024x1024) ![1, 0, 0] S1x1024x1024.size inb_S3x1024x1024_S1x1024x1024_1_0_0
abbrev rC2a : Rect S3x1024x1024 := Rect.unit (s := S3x1024x1024) ![2, 0, 0] S1x512x1024.size inb_S3x1024x1024_S1x512x1024_2_0_0
abbrev rC2b : Rect S3x1024x1024 := Rect.unit (s := S3x1024x1024) ![2, 512, 0] S1x512x1024.size inb_S3x1024x1024_S1x512x1024_2_512_0
abbrev C0a := cmM.slice rC0a (fun _ => rfl)
abbrev C0b := cmM.slice rC0b (fun _ => rfl)
abbrev C1 := cmM.slice rC1 (fun _ => rfl)
abbrev C2a := cmM.slice rC2a (fun _ => rfl)
abbrev C2b := cmM.slice rC2b (fun _ => rfl)
abbrev C0as : Memref sig .tc .vmem S512x1024 .bf16 := C0a.squeeze S512x1024 squeezes_S1x512x1024_S512x1024
abbrev C0bs : Memref sig .tc .vmem S512x1024 .bf16 := C0b.squeeze S512x1024 squeezes_S1x512x1024_S512x1024
abbrev C1s : Memref sig .tc .vmem S1024x1024 .bf16 := C1.squeeze S1024x1024 squeezes_S1x1024x1024_S1024x1024
abbrev C2as : Memref sig .tc .vmem S512x1024 .bf16 := C2a.squeeze S512x1024 squeezes_S1x512x1024_S512x1024
abbrev C2bs : Memref sig .tc .vmem S512x1024 .bf16 := C2b.squeeze S512x1024 squeezes_S1x512x1024_S512x1024

-- where the rows arrive from the array, two slots, slot 0 in halves at first
abbrev rT0a : Rect S2x1024x1024 := Rect.unit (s := S2x1024x1024) ![0, 0, 0] S1x512x1024.size inb_S2x1024x1024_S1x512x1024_0_0_0
abbrev rT0b : Rect S2x1024x1024 := Rect.unit (s := S2x1024x1024) ![0, 512, 0] S1x512x1024.size inb_S2x1024x1024_S1x512x1024_0_512_0
abbrev rT0 : Rect S2x1024x1024 := Rect.unit (s := S2x1024x1024) ![0, 0, 0] S1x1024x1024.size inb_S2x1024x1024_S1x1024x1024_0_0_0
abbrev rT1 : Rect S2x1024x1024 := Rect.unit (s := S2x1024x1024) ![1, 0, 0] S1x1024x1024.size inb_S2x1024x1024_S1x1024x1024_1_0_0
abbrev T0a := xsM.slice rT0a (fun _ => rfl)
abbrev T0b := xsM.slice rT0b (fun _ => rfl)
abbrev T0 := xsM.slice rT0 (fun _ => rfl)
abbrev T1 := xsM.slice rT1 (fun _ => rfl)
abbrev T0as : Memref sig .tc .vmem S512x1024 .f32 := T0a.squeeze S512x1024 squeezes_S1x512x1024_S512x1024
abbrev T0bs : Memref sig .tc .vmem S512x1024 .f32 := T0b.squeeze S512x1024 squeezes_S1x512x1024_S512x1024
abbrev T0s : Memref sig .tc .vmem S1024x1024 .f32 := T0.squeeze S1024x1024 squeezes_S1x1024x1024_S1024x1024
abbrev T1s : Memref sig .tc .vmem S1024x1024 .f32 := T1.squeeze S1024x1024 squeezes_S1x1024x1024_S1024x1024

-- the converted factor, four slots
abbrev rB0 : Rect S4x1024x2048 := Rect.unit (s := S4x1024x2048) ![0, 0, 0] S1x1024x2048.size inb_S4x1024x2048_S1x1024x2048_0_0_0
abbrev rB1 : Rect S4x1024x2048 := Rect.unit (s := S4x1024x2048) ![1, 0, 0] S1x1024x2048.size inb_S4x1024x2048_S1x1024x2048_1_0_0
abbrev rB2 : Rect S4x1024x2048 := Rect.unit (s := S4x1024x2048) ![2, 0, 0] S1x1024x2048.size inb_S4x1024x2048_S1x1024x2048_2_0_0
abbrev rB3 : Rect S4x1024x2048 := Rect.unit (s := S4x1024x2048) ![3, 0, 0] S1x1024x2048.size inb_S4x1024x2048_S1x1024x2048_3_0_0
abbrev B0 := wbM.slice rB0 (fun _ => rfl)
abbrev B1 := wbM.slice rB1 (fun _ => rfl)
abbrev B2 := wbM.slice rB2 (fun _ => rfl)
abbrev B3 := wbM.slice rB3 (fun _ => rfl)

-- the rows of the arguments each copy reads
abbrev rA (c : Dev nD) : Rect S4096x1024 := Rect.unit (s := S4096x1024) (k0_off1 c 0#32) S512x1024.size (k0_off1_inb c 0)
abbrev rB (c : Dev nD) : Rect S4096x1024 := Rect.unit (s := S4096x1024) (k0_off1 c 512#32) S512x1024.size (k0_off1_inb c 1)
abbrev rC (c : Dev nD) : Rect S4096x1024 := Rect.unit (s := S4096x1024) (k0_off2 c 2#32) S1024x1024.size (k0_off2_inb c 0)
abbrev rD (c : Dev nD) : Rect S4096x1024 := Rect.unit (s := S4096x1024) (k0_off2 c 3#32) S1024x1024.size (k0_off2_inb c 1)
abbrev rE (c : Dev nD) : Rect S4096x1024 := Rect.unit (s := S4096x1024) (k0_off3 c) S1024x1024.size (k0_off3_inb c)
abbrev rW0 (c : Dev nD) : Rect S4096x2048 := Rect.unit (s := S4096x2048) (k0_off4 c) S1024x2048.size (k0_off4_inb c)
abbrev rW1 (c : Dev nD) : Rect S4096x2048 := Rect.unit (s := S4096x2048) (k0_off5 c 1#32) S1024x2048.size (k0_off5_inb c 0)
abbrev rW2 (c : Dev nD) : Rect S4096x2048 := Rect.unit (s := S4096x2048) (k0_off5 c 2#32) S1024x2048.size (k0_off5_inb c 1)
abbrev rW3 (c : Dev nD) : Rect S4096x2048 := Rect.unit (s := S4096x2048) (k0_off5 c 3#32) S1024x2048.size (k0_off5_inb c 2)

/-! ## The contents -/

/-- The device's columns of the first argument, its copy of the second. -/
def xv (c : Dev nD) : Vec F S4096x1024 .f32 := m ((c : Thread nD τ).loc main_arg0)
def wv (c : Dev nD) : Vec F S4096x2048 .f32 := m ((c : Thread nD τ).loc main_arg1)

-- the rows as they arrive
def vA (c : Dev nD) : Vec F S1x512x1024 .f32 := recast (squeezes_S1x512x1024_S512x1024).numel_eq.symm (fun j : S512x1024.Idx => xv m c ((rA c).emb j))
def vB (c : Dev nD) : Vec F S1x512x1024 .f32 := recast (squeezes_S1x512x1024_S512x1024).numel_eq.symm (fun j : S512x1024.Idx => xv m c ((rB c).emb j))
def vC (c : Dev nD) : Vec F S1x1024x1024 .f32 := recast (squeezes_S1x1024x1024_S1024x1024).numel_eq.symm (fun j : S1024x1024.Idx => xv m c ((rC c).emb j))
def vD (c : Dev nD) : Vec F S1x1024x1024 .f32 := recast (squeezes_S1x1024x1024_S1024x1024).numel_eq.symm (fun j : S1024x1024.Idx => xv m c ((rD c).emb j))
def vE (c : Dev nD) : Vec F S1x1024x1024 .f32 := recast (squeezes_S1x1024x1024_S1024x1024).numel_eq.symm (fun j : S1024x1024.Idx => xv m c ((rE c).emb j))

-- converted: the rows sent (messages 0 and 1; 2; 3 and 4 in one) and the rows kept
def cA (c : Dev nD) : Vec F S1x512x1024 .bf16 := k0_pay1 (vA m c)
def cB (c : Dev nD) : Vec F S1x512x1024 .bf16 := k0_pay2 (vB m c)
def cC (c : Dev nD) : Vec F S1x1024x1024 .bf16 := k0_pay3 (vC m c)
def cD (c : Dev nD) : Vec F S1x1024x1024 .bf16 := k0_pay4 (vD m c)
def cE (c : Dev nD) : Vec F S1x1024x1024 .bf16 := k0_pay5 (vE m c)

-- the two halves of a slot
abbrev hLo : Rect S1x1024x1024 := Rect.unit (s := S1x1024x1024) ![0, 0, 0] S1x512x1024.size (by decide)
abbrev hHi : Rect S1x1024x1024 := Rect.unit (s := S1x1024x1024) ![0, 512, 0] S1x512x1024.size (by decide)
def cDa (c : Dev nD) : Vec F S1x512x1024 .bf16 := fun j => cD m c (hLo.emb j)
def cDb (c : Dev nD) : Vec F S1x512x1024 .bf16 := fun j => cD m c (hHi.emb j)

/-- The five messages device `c` sends. -/
def msg0 (c : Dev nD) : Vec F S512x1024 .bf16 := recast (squeezes_S1x512x1024_S512x1024).numel_eq (cA m c)
def msg1 (c : Dev nD) : Vec F S512x1024 .bf16 := recast (squeezes_S1x512x1024_S512x1024).numel_eq (cB m c)
def msg2 (c : Dev nD) : Vec F S1024x1024 .bf16 := recast (squeezes_S1x1024x1024_S1024x1024).numel_eq (cC m c)
def msg3 (c : Dev nD) : Vec F S512x1024 .bf16 := recast (squeezes_S1x512x1024_S512x1024).numel_eq (cDa m c)
def msg4 (c : Dev nD) : Vec F S512x1024 .bf16 := recast (squeezes_S1x512x1024_S512x1024).numel_eq (cDb m c)

-- the factor's rows as they arrive, converted
def w0 (c : Dev nD) : Vec F S1024x2048 .f32 := fun j => wv m c ((rW0 c).emb j)
def w1 (c : Dev nD) : Vec F S1024x2048 .f32 := fun j => wv m c ((rW1 c).emb j)
def w2 (c : Dev nD) : Vec F S1024x2048 .f32 := fun j => wv m c ((rW2 c).emb j)
def w3 (c : Dev nD) : Vec F S1024x2048 .f32 := fun j => wv m c ((rW3 c).emb j)
def b0 (c : Dev nD) : Vec F S1x1024x2048 .bf16 := k0_pay6 (w0 m c)
def b1 (c : Dev nD) : Vec F S1x1024x2048 .bf16 := k0_pay8 (w1 m c)
def b2 (c : Dev nD) : Vec F S1x1024x2048 .bf16 := k0_pay11 (w2 m c)
def b3 (c : Dev nD) : Vec F S1x1024x2048 .bf16 := k0_pay13 (w3 m c)

-- the result's two halves of rows
abbrev rLo : Rect S1024x2048 := Rect.unit (s := S1024x2048) ![0, 0] S512x2048.size inb_S1024x2048_S512x2048_0_0
abbrev rHi : Rect S1024x2048 := Rect.unit (s := S1024x2048) ![512, 0] S512x2048.size inb_S1024x2048_S512x2048_512_0

/-- The result as it is built up, store by store. -/
def o1 (c : Dev nD) : Vec F S1024x2048 .f32 := k0_pay7 (cE m c) (b0 m c)
def o2 (c : Dev nD) : Vec F S1024x2048 .f32 := rLo.overlay (o1 m c) (k0_pay9 (fun j => o1 m c (rLo.emb j)) (cA m (rot 3 c)) (b1 m c))
def o3 (c : Dev nD) : Vec F S1024x2048 .f32 := rHi.overlay (o2 m c) (k0_pay10 (fun j => o2 m c (rHi.emb j)) (cB m (rot 3 c)) (b1 m c))
def o4 (c : Dev nD) : Vec F S1024x2048 .f32 := k0_pay12 (o3 m c) (cC m (rot 2 c)) (b2 m c)
def o5 (c : Dev nD) : Vec F S1024x2048 .f32 := rLo.overlay (o4 m c) (k0_pay14 (fun j => o4 m c (rLo.emb j)) (cDa m (rot 1 c)) (b3 m c))
def o6 (c : Dev nD) : Vec F S1024x2048 .f32 := rLo.overlay (o5 m c) (k0_pay15 (fun j => o5 m c (rLo.emb j)))
def o7 (c : Dev nD) : Vec F S1024x2048 .f32 := rHi.overlay (o6 m c) (k0_pay16 (fun j => o6 m c (rHi.emb j)) (cDb m (rot 1 c)) (b3 m c))
def o8 (c : Dev nD) : Vec F S1024x2048 .f32 := rHi.overlay (o7 m c) (k0_pay17 (fun j => o7 m c (rHi.emb j)))

/-! ## The cells -/

/-- The cells the devices share: the barrier's, the five send cells, the five receive cells. -/
abbrev Cel : Type := Option (Bool × Fin 5)
abbrev bar : Cel := none
abbrev snd (n : Fin 5) : Cel := some (false, n)
abbrev rcv (n : Fin 5) : Cel := some (true, n)

abbrev barS : Sem sig := (SemArray.scalar (sig.barrier 0 rfl) : Sems sig S_).sem

set_option backward.proofsInPublic true in
def csem : Cel → SemLoc sig
  | none => .reg barS
  | some (false, n) => .dma (⟨5 + n.val, Nat.lt_of_lt_of_le (Nat.add_lt_add_left n.isLt 5) (by decide)⟩ : Fin 15)
  | some (true, n) => .dma (⟨10 + n.val, Nat.lt_of_lt_of_le (Nat.add_lt_add_left n.isLt 10) (by decide)⟩ : Fin 15)

set_option backward.proofsInPublic true in
/-- Which of them a semaphore is. -/
def dec : SemLoc sig → Option Cel
  | .reg s => if s = barS then some none else none
  | .dma q => if h : 10 ≤ q.val ∧ q.val < 15 then some (some (true, ⟨q.val - 10, by omega⟩))
      else if h : 5 ≤ q.val ∧ q.val < 10 then some (some (false, ⟨q.val - 5, by omega⟩)) else none

theorem dec_csem (k : Cel) : dec (csem k) = some k := by revert k; decide

theorem csem_inj {k k' : Cel} (h : csem k = csem k') : k = k' :=
  Option.some.inj ((dec_csem k).symm.trans ((congrArg dec h).trans (dec_csem k')))

abbrev kcell (ck : Dev nD × Cel) : GSem nD τ sig := ((ck.1 : Thread nD τ), csem ck.2)

/-- What a message credits. -/
abbrev crH : ℕ := C0as.view.dmaCredit
abbrev crW : ℕ := C1s.view.dmaCredit
def cr : Fin 5 → ℕ := fun n => if n = 2 then crW else crH
theorem cr_pos (n : Fin 5) : 0 < cr n := by
  unfold cr; split
  · exact View.dmaCredit_pos _ (by decide)
  · exact View.dmaCredit_pos _ (by decide)

/-! ## What the cells hand over -/

/-- The landing slot `t` of device `p`, at any contents. -/
def slotFree (p : Dev nD) (t : Fin 3) : sProp 𝕄 := match t with
  | 0 => iprop(some_owned (p : Thread nD τ) C0as ∗ some_owned (p : Thread nD τ) C0bs)
  | 1 => some_owned (p : Thread nD τ) C1s
  | 2 => iprop(some_owned (p : Thread nD τ) C2as ∗ some_owned (p : Thread nD τ) C2bs)

def barPay (c : Dev nD) (t : Fin 3) : sProp 𝕄 := slotFree (rot (t.val + 1) c) t

def sndPay (c : Dev nD) (n : Fin 5) : sProp 𝕄 := match n with
  | 0 => some_owned (c : Thread nD τ) X0as
  | 1 => some_owned (c : Thread nD τ) X0bs
  | 2 => some_owned (c : Thread nD τ) X1s
  | 3 => some_owned (c : Thread nD τ) X2as
  | 4 => some_owned (c : Thread nD τ) X2bs

def rcvPay (c : Dev nD) (n : Fin 5) : sProp 𝕄 := match n with
  | 0 => owns (c : Thread nD τ) C0as fullShare (msg0 m (rot 3 c))
  | 1 => owns (c : Thread nD τ) C0bs fullShare (msg1 m (rot 3 c))
  | 2 => owns (c : Thread nD τ) C1s fullShare (msg2 m (rot 2 c))
  | 3 => owns (c : Thread nD τ) C2as fullShare (msg3 m (rot 1 c))
  | 4 => owns (c : Thread nD τ) C2bs fullShare (msg4 m (rot 1 c))

def pay (c : Dev nD) (k : Option Cel) (t : Fin 3) : sProp 𝕄 := match k with
  | some none => barPay c t
  | some (some (false, n)) => sndPay c n
  | some (some (true, n)) => rcvPay m c n
  | none => iprop(emp)

def amt (k : Option Cel) : ℕ := match k with
  | some (some (_, n)) => cr n
  | _ => 1

def dts (k : Option Cel) : Finset (Fin 3) := match k with
  | some none => Finset.univ
  | some (some _) => {0}
  | none => ∅

/-- One round: a barrier cell's three units, one per slot; a send or a receive cell's one landing. -/
def rd : Rounds.Schedule (GSem nD τ sig) (Fin 3) 𝕄 where
  duties g r := if r = 0 ∧ g.1.2 = .tc then dts (dec g.2) else ∅
  unitless _ := False
  amount g _ _ := amt (dec g.2)
  payload g _ d := pay m g.1.1 (dec g.2) d
  amount_pos g _ _ _ := by
    unfold amt; split
    · exact cr_pos _
    · exact Nat.one_pos

instance slotFree_storable (p : Dev nD) (t : Fin 3) : BI.Storable (upEmb : UEmb _ 𝕄) (slotFree (F := F) p t) := by
  unfold slotFree; split <;> infer_instance
instance sndPay_storable (c : Dev nD) (n : Fin 5) : BI.Storable (upEmb : UEmb _ 𝕄) (sndPay (F := F) c n) := by
  unfold sndPay; split <;> infer_instance
instance rcvPay_storable (c : Dev nD) (n : Fin 5) : BI.Storable (upEmb : UEmb _ 𝕄) (rcvPay (F := F) m c n) := by
  unfold rcvPay; split <;> infer_instance
instance pay_storable (g : GSem nD τ sig) (r : ℕ) (d : Fin 3) : BI.Storable (upEmb : UEmb _ 𝕄) ((rd (F := F) m).payload g r d) := by
  show BI.Storable _ (pay m g.1.1 (dec g.2) d)
  unfold pay barPay; split <;> infer_instance

theorem duties_at (c : Dev nD) (k : Cel) : (rd (F := F) m).duties (kcell (c, k)) 0 = dts (some k) := by
  show (if 0 = 0 ∧ (kcell (c, k)).1.2 = .tc then dts (dec (csem k)) else ∅) = _
  rw [if_pos ⟨rfl, rfl⟩, dec_csem]
theorem duties_later (g : GSem nD τ sig) : ∀ r, 1 ≤ r → (rd (F := F) m).duties g r = ∅ :=
  fun r hr => if_neg fun h => by omega
theorem amount_at (c : Dev nD) (k : Cel) (d : Fin 3) : (rd (F := F) m).amount (kcell (c, k)) 0 d = amt (some k) := by
  show amt (dec (csem k)) = _; rw [dec_csem]
theorem payload_at (c : Dev nD) (k : Cel) (d : Fin 3) : (rd (F := F) m).payload (kcell (c, k)) 0 d = pay m c (some k) d := by
  show pay m c (dec (csem k)) d = _; rw [dec_csem]

theorem expect_bar (c : Dev nD) : (rd (F := F) m).expect (kcell (c, bar)) 0 = 3 := by
  unfold Schedule.expect Schedule.amountOf
  rw [duties_at, Finset.sum_congr rfl fun d _ => amount_at m c bar d]; rfl
theorem expect_msg (c : Dev nD) (b : Bool) (n : Fin 5) : (rd (F := F) m).expect (kcell (c, some (b, n))) 0 = cr n := by
  unfold Schedule.expect Schedule.amountOf
  rw [duties_at, Finset.sum_congr rfl fun d _ => amount_at m c (some (b, n)) d]
  exact Finset.sum_singleton _ _

theorem rest_bar (c : Dev nD) : bigSep ((rd (F := F) m).duties (kcell (c, bar)) 0 \ ∅) (fun d => (rd (F := F) m).payload (kcell (c, bar)) 0 d)
    = iprop(slotFree (rot 1 c) 0 ∗ slotFree (rot 2 c) 1 ∗ slotFree (rot 3 c) 2) := by
  rw [Finset.sdiff_empty, duties_at, bigSep_congr fun d _ => payload_at m c bar d]
  exact bigSep_univ_eq_bigSepL [0, 1, 2] (by decide) (by decide) (fun d => barPay (F := F) c d)
theorem rest_snd (c : Dev nD) (n : Fin 5) : bigSep ((rd (F := F) m).duties (kcell (c, snd n)) 0 \ ∅) (fun d => (rd (F := F) m).payload (kcell (c, snd n)) 0 d)
    = sndPay c n := by
  rw [Finset.sdiff_empty, duties_at, bigSep_congr fun d _ => payload_at m c (snd n) d]
  exact bigSep_singleton
theorem rest_rcv (c : Dev nD) (n : Fin 5) : bigSep ((rd (F := F) m).duties (kcell (c, rcv n)) 0 \ ∅) (fun d => (rd (F := F) m).payload (kcell (c, rcv n)) 0 d)
    = rcvPay m c n := by
  rw [Finset.sdiff_empty, duties_at, bigSep_congr fun d _ => payload_at m c (rcv n) d]
  exact bigSep_singleton

/-! ## What each device owes, and the levels -/

/-- How far on message `n` goes. -/
def far : Fin 5 → ℕ := fun | 0 => 1 | 1 => 1 | 2 => 2 | 3 => 3 | 4 => 3

abbrev owe (c : Dev nD) (n : Fin 5) : CellTallies nD τ sig Unit := tallyAt (kcell (rot (far n) c, rcv n)) () (cr n)
abbrev oweB (c : Dev nD) (d : ℕ) : CellTallies nD τ sig Unit := tallyAt (kcell (rot d c, bar)) () 1

-- what is owed before the sends 4, 3, 2, 1, 0, before the signals 3, 2, 1
abbrev S4 (c : Dev nD) : CellTallies nD τ sig Unit := 0 + owe c 4
abbrev S3 (c : Dev nD) := S4 c + owe c 3
abbrev S2 (c : Dev nD) := S3 c + owe c 2
abbrev S1 (c : Dev nD) := S2 c + owe c 1
abbrev S0 (c : Dev nD) := S1 c + owe c 0
abbrev P3 (c : Dev nD) := S0 c + oweB c 3
abbrev P2 (c : Dev nD) := P3 c + oweB c 2
abbrev P1 (c : Dev nD) := P2 c + oweB c 1
def O₀ (c : Dev nD) : CellTallies nD τ sig Unit := P1 c

def L (g : GSem nD τ sig) : Finset Unit := if g.1.2 = .tc then {()} else ∅
def lvl (k : Option Cel) : ℕ := match k with
  | some none => 1
  | some (some (true, _)) => 2
  | _ => 0
def lv (g : GSem nD τ sig) (_ : Unit) : ℕ := lvl (dec g.2)

theorem L_of_ne (g : GSem nD τ sig) (h : g.1.2 ≠ .tc) : L g = ∅ := if_neg h

/-- Everything owed is owed to cells above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.at {n : ℕ} (c : Dev nD) (k : Cel) (N : ℕ) (h : n < lvl (some k)) : Above n (tallyAt (kcell (c, k)) () N) := fun g u hg => by
  rw [tallyAt_apply] at hg
  by_cases hh : g = kcell (c, k) ∧ u = ()
  · rw [hh.1]; exact ⟨rfl, by unfold lv; rw [dec_csem]; exact h⟩
  · rw [if_neg hh] at hg; exact absurd hg (Nat.lt_irrefl 0)

theorem above_S4 (c : Dev nD) : Above 1 (S4 c) := (Above.zero 1).add (Above.at _ _ _ (by decide))
theorem above_S3 (c : Dev nD) : Above 1 (S3 c) := (above_S4 c).add (Above.at _ _ _ (by decide))
theorem above_S2 (c : Dev nD) : Above 1 (S2 c) := (above_S3 c).add (Above.at _ _ _ (by decide))
theorem above_S1 (c : Dev nD) : Above 1 (S1 c) := (above_S2 c).add (Above.at _ _ _ (by decide))
theorem above_S0 (c : Dev nD) : Above 1 (S0 c) := (above_S1 c).add (Above.at _ _ _ (by decide))
theorem Above.mono {n : ℕ} {O : CellTallies nD τ sig Unit} (h : Above n O) (n' : ℕ) (hn : n' ≤ n) : Above n' O :=
  fun g u hg => ⟨(h g u hg).1, Nat.lt_of_le_of_lt hn (h g u hg).2⟩
theorem above_O₀ (c : Dev nD) : Above 0 (O₀ c) :=
  ((((above_S0 c).mono 0 (Nat.zero_le _)).add (Above.at _ _ _ (by decide))).add (Above.at _ _ _ (by decide))).add (Above.at _ _ _ (by decide))

/-- A wait on a cell below everything owed. -/
theorem mayWait (c : Dev nD) (sm : SemLoc sig) {O : CellTallies nD τ sig Unit} (h : Above (lvl (dec sm)) O) :
    (levAts L lv : sProp 𝕄) ⊢ MayWait (c : Thread nD τ) sm () O :=
  MayOwe.of_cut (L := L) (lev := lv) (lvl (dec sm))
    (fun p hp => by rw [Finset.mem_singleton.mp hp]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

/-! ## What every device knows -/

/-- Every shared cell's invariant, every shared cell at its first round, the levels. -/
def know (K : Dev nD × Cel → ℕ) : sProp 𝕄 :=
  iprop((∀ ck : Dev nD × Cel, cellInv ER (rd m) (K ck) (kcell ck)) ∗ (∀ ck : Dev nD × Cel, reached ER (kcell ck) 0) ∗ levAts L lv)

instance know_persistent (K : Dev nD × Cel → ℕ) : BI.Persistent (know (F := F) m K) := by unfold know; infer_instance

theorem know_inv (K : Dev nD × Cel → ℕ) (ck : Dev nD × Cel) : know (F := F) m K ⊢ cellInv ER (rd m) (K ck) (kcell ck) := by
  unfold know; iintro ⟨H, -⟩; iapply H
theorem know_reached (K : Dev nD × Cel → ℕ) (ck : Dev nD × Cel) : know (F := F) m K ⊢ reached ER (kcell ck) 0 := by
  unfold know; iintro ⟨-, H, -⟩; iapply H
theorem know_mayWait (K : Dev nD × Cel → ℕ) (c : Dev nD) (sm : SemLoc sig) {O : CellTallies nD τ sig Unit} (h : Above (lvl (dec sm)) O) :
    know (F := F) m K ⊢ MayWait (c : Thread nD τ) sm () O := by
  unfold know; iintro ⟨-, -, H⟩; iapply (mayWait c sm h); iexact H

end Cert.Own

end
-- ==== Proof.Moves.lean ====
/-
  The kernel's effects under its protocol: a copy from an argument and its wait, a signal, a message, a wait on a shared
  semaphore, the chunk conversions.
-/
module

public import proofs.«01_k».proof.Proof.Protocol

@[expose] public section

noncomputable section

namespace Cert.Own

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cel → ℕ) (c : Dev nD)

abbrev 𝒱₀ : Variants := Variants.none

/-- What runs on device `c` with what it leads to. -/
abbrev runs {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The device owes `O`, whatever it waited for before. -/
def owing (O : CellTallies nD τ sig Unit) : sProp 𝕄 := iprop(∃ W, owes (c : Thread nD τ) O W)

/-- An argument can be read. -/
def readable {sp : Space} {s : Shape} {e : EltTy} (M : Memref sig .tc sp s e) (X : s.Idx → Elt F e) : sProp 𝕄 :=
  iprop(∃ q, owns (c : Thread nD τ) M q X)

/-- A copy into `dst` under way on a semaphore. -/
def coming {sp : Space} {s : Shape} {e : EltTy} (sm : SemLoc sig) (dst : Memref sig .tc sp s e) (X : s.Idx → Elt F e) : sProp 𝕄 :=
  Transfers.Flight EC (c : Thread nD τ) sm () dst.view.dmaCredit (owns (c : Thread nD τ) dst fullShare X)

theorem readable_split {sp : Space} {s : Shape} {e : EltTy} (M : Memref sig .tc sp s e) (X : s.Idx → Elt F e) :
    (readable c M X : sProp 𝕄) ⊢ iprop(readable c M X ∗ ∃ q, owns (c : Thread nD τ) M q X) := by
  unfold readable owns
  iintro ⟨%q, %f, %hf, H⟩
  ihave H2 := (pointsTo_share (PosShare.mem_left_op_right q)).1 $$ H
  icases H2 with ⟨H₁, H₂⟩
  isplitl [H₁]
  · iexists q.left; iexists f; isplitr
    · ipureintro; exact hf
    · iexact H₁
  · iexists q.right; iexists f; isplitr
    · ipureintro; exact hf
    · iexact H₂

section
variable {α : Type} {Q : α → sProp (MT nD τ sig Unit (Elt F) ℕ UU ℕ)} {k : PUnit → Prog (TpuEff nD τ sig (Elt F) Λ₀ .tc) α}

/-- A copy of rows of an argument starts. -/
theorem fetch_start {sp sp' : Space} {s : Shape} {e : EltTy} {M : Memref sig .tc sp s e} {r : Rect s} {hr : ∀ a, r.stride a = 1}
    {dst : Memref sig .tc sp' r.shape e} {sm : DmaSem sig}
    {hsrc : (M.slice r hr).view.WordExact} {hdst : dst.view.WordExact} {hsem : DmaTarget.Typed (nD := nD) (p := (Proc.tc : Proc τ)) sp (.dma sm) (.here dst)}
    (sm' : SemLoc sig) (hsm : SemLoc.dma sm = sm') (hp : 0 < r.shape.numel) (X : s.Idx → Elt F e) :
    iprop(readable c M X ∗ some_owned (c : Thread nD τ) dst ∗ semVal ((c : Thread nD τ), sm') 0)
      ⊢ iprop((readable c M X ∗ coming c sm' dst (fun j => X (r.emb j)) -∗ runs c (k ⟨⟩) Q)
          -∗ runs c (.op (.enqueueDma (M.slice r hr) (.here dst) (.dma sm) hsrc hdst hsem) k) Q) := by
  subst hsm
  iintro ⟨HR, Hd, Hv⟩ Hk
  ihave HR2 := (readable_split c M X) $$ HR
  icases HR2 with ⟨HR, ⟨%q, Hs⟩⟩
  unfold some_owned
  icases Hd with ⟨%Y, Hd⟩
  ihave Hs' := (owns_part (c : Thread nD τ) M q r hr X) $$ Hs
  iapply (copy_start 𝒱₀ (c : Thread nD τ) none EC () dst.view.dmaCredit rfl (View.dmaCredit_pos _ hp) q (fun j => X (r.emb j)) Y) $$ [Hs' Hd Hv]
  · isplitl [Hs']; · iexact Hs'
    isplitl [Hd] <;> iassumption
  iintro HF
  iapply Hk
  isplitl [HR]; · iexact HR
  unfold coming; iexact HF

/-- The wait for it. -/
theorem fetch_wait {sp sp' : Space} {s s' : Shape} {e e' : EltTy} {sem : DmaSem sig}
    {srcw : Memref sig .tc sp' s' e'} {dst : Memref sig .tc sp s e} {hsrc : srcw.view.WordExact} {hdst : dst.view.WordExact}
    (sm' : SemLoc sig) (hsm : SemLoc.dma sem = sm') (X : s.Idx → Elt F e) {O : CellTallies nD τ sig Unit} (hO : Above (lvl (dec sm')) O) :
    iprop(know m K ∗ coming c sm' dst X ∗ owing c O)
      ⊢ iprop((iprop(owns (c : Thread nD τ) dst fullShare X ∗ semVal ((c : Thread nD τ), sm') 0 ∗ owing c O) -∗ runs c (k ⟨⟩) Q)
          -∗ runs c (.op (.waitDma2 sem srcw dst hsrc hdst) k) Q) := by
  subst hsm
  unfold owing coming
  iintro ⟨Hn, HF, ⟨%W, HO⟩⟩ Hk
  iapply (copy_wait 𝒱₀ (c : Thread nD τ) none EC () rfl) $$ [Hn HF HO]
  · isplitl [HF]; · iexact HF
    isplitl [HO]; · iexact HO
    iapply (know_mayWait m K c _ hO); iexact Hn
  iintro ⟨HD, Hv, HO⟩
  iapply Hk
  isplitl [HD]; · iexact HD
  isplitl [Hv]; · iexact Hv
  iexists _; iexact HO

/-- The signal to the device `d` places on: it hands over a landing slot. -/
theorem give (d : ℕ) (t : Fin 3) (hdt : rot (t.val + 1) (rot d c) = c) {n : Dev nD} (hn : n = rot d c) {sem : Sem sig} (hs : sem = barS) {w : ℕ} (hw : w = 1)
    (O : CellTallies nD τ sig Unit) :
    iprop(know m K ∗ owing c (O + oweB c d) ∗ dutyTok ER (kcell (rot d c, bar)) 0 t ∗ slotFree c t)
      ⊢ iprop((owing c O -∗ runs c (k ⟨⟩) Q) -∗ runs c (.op (.semSignal (n : Thread nD τ) sem w) k) Q) := by
  subst hn hs hw
  unfold owing
  iintro ⟨#Hn, ⟨%W, HO⟩, Ht, Hp⟩ Hk
  iapply (Rounds.wp_signal 𝒱₀ ER (rd m) (c : Thread nD τ) none (dst := (rot d c : Thread nD τ)) (sem := barS) (κ := K (rot d c, bar)) (r := 0)
      (d := t) (by have h := duties_at m (rot d c) bar; exact h ▸ Finset.mem_univ t) (amount_at m (rot d c) bar t) () O rfl) $$ [HO Ht Hp]
  · isplitr; · iapply (know_inv m K (rot d c, bar)); iexact Hn
    isplitl [HO]; · iexact HO
    isplitl [Ht]; · iexact Ht
    isplitl [Hp]
    · rw [show (rd (F := F) m).payload ((rot d c : Thread nD τ), .reg barS) 0 t = slotFree c t from
        (payload_at m (rot d c) bar t).trans (by show slotFree (rot (t.val + 1) (rot d c)) t = _; rw [hdt])]
      iexact Hp
    iapply (know_reached m K (rot d c, bar)); iexact Hn
  iintro HO
  iapply Hk
  iexists W; iexact HO

/-- The wait on the device's own barrier cell: the slots it writes on the others. -/
theorem take_bar {sem : Sem sig} (hs : sem = barS) {w : ℕ} (hw : w = 3) {O : CellTallies nD τ sig Unit} (hO : Above 1 O) :
    iprop(know m K ∗ cred (tallyAt (kcell (c, bar)) () 3) ∗ owing c O ∗ atPos ER (kcell (c, bar)) 0 ∅ 0)
      ⊢ iprop((iprop(owing c O ∗ semVal (kcell (c, bar)) 0 ∗ slotFree (rot 1 c) 0 ∗ slotFree (rot 2 c) 1 ∗ slotFree (rot 3 c) 2) -∗ runs c (k ⟨⟩) Q)
          -∗ runs c (.op (.semWait sem w) k) Q) := by
  subst hs hw
  unfold owing
  iintro ⟨#Hn, Hc, ⟨%W, HO⟩, Hat⟩ Hk
  iapply (Rounds.wp_wait_rest_token 𝒱₀ ER (rd m) (c : Thread nD τ) none (κ := K (c, bar)) (sm := .reg barS)
      (wpE_semWait_eq 𝒱₀ (c : Thread nD τ) none Set.univ) (Set.mem_univ _) () (O := O) (W := W) (R := 0) (m := 0) (T := ∅)
      (by rw [Nat.zero_add]; exact (expect_bar m c).symm)) $$ [Hc HO Hat]
  · isplitr; · iapply (know_inv m K (c, bar)); iexact Hn
    isplitl [Hc]; · iexact Hc
    isplitl [HO]; · iexact HO
    isplitr; · iapply (know_mayWait m K c _ (by rw [show dec (.reg barS) = some bar from dec_csem bar]; exact hO)); iexact Hn
    iexact Hat
  iintro ⟨HO, Hat, -, Hpay⟩
  ihave Hp := (show bigSep ((rd (F := F) m).duties ((c : Thread nD τ), .reg barS) 0 \ ∅) (fun d => (rd (F := F) m).payload ((c : Thread nD τ), .reg barS) 0 d) ⊢ _ from Entails.of_eq (rest_bar m c)) $$ Hpay
  imod (Rounds.cell_close ER (rd m) (Set.mem_univ (K (c, bar))) (fun h => h) (R := 0 + 1) (duties_later m (kcell (c, bar)))) $$ [Hat] with Hz
  · isplitr; · iapply (know_inv m K (c, bar)); iexact Hn
    iexact Hat
  iapply Hk
  isplitl [HO]; · iexists _; iexact HO
  isplitl [Hz]; · iexact Hz
  iexact Hp

/-- A message: the chunk goes with the send cell's duty, the landing chunk, now the message, with the receive cell's. -/
theorem send {sp sp' : Space} {s : Shape} {e : EltTy} (n : Fin 5) {p : Dev nD} (hp : p = rot (far n) c)
    {src : Memref sig .tc sp s e} {dst : Memref sig .tc sp' s e} {hsc : dst.view.ref.isScScratch = false} {sS sem : DmaSem sig}
    {hsrc : src.view.WordExact} {hdst : dst.view.WordExact} {hsem : DmaTarget.Typed (p := (Proc.tc : Proc τ)) sp (.dma sem) (.remote (Dev.tc p : Thread nD τ) dst (.dma sS) hsc)}
    (hsS : SemLoc.dma sS = csem (snd n)) (hsV : SemLoc.dma sem = csem (rcv n)) (hN : dst.view.dmaCredit = cr n)
    (X : s.Idx → Elt F e)
    (hpay₁ : (owns (c : Thread nD τ) src fullShare X : sProp 𝕄) ⊢ sndPay c n)
    (hpay₂ : (owns (rot (far n) c : Thread nD τ) dst fullShare X : sProp 𝕄) ⊢ rcvPay m (rot (far n) c) n)
    (O : CellTallies nD τ sig Unit) :
    iprop(know m K ∗ owns (c : Thread nD τ) src fullShare X ∗ some_owned (rot (far n) c : Thread nD τ) dst ∗ owing c (O + owe c n)
        ∗ dutyTok ER (kcell (c, snd n)) 0 0 ∗ dutyTok ER (kcell (rot (far n) c, rcv n)) 0 0)
      ⊢ iprop((cred (tallyAt (kcell (c, snd n)) () (cr n)) ∗ owing c O -∗ runs c (k ⟨⟩) Q)
          -∗ runs c (.op (.enqueueDma src (.remote (Dev.tc p : Thread nD τ) dst (.dma sS) hsc) (.dma sem) hsrc hdst hsem) k) Q) := by
  subst hp
  unfold owing some_owned
  iintro ⟨#Hn, Hs, ⟨%Y, Hd⟩, ⟨%W, HO⟩, Ht₁, Ht₂⟩ Hk
  have e₁ : (((c : Dev nD) : Thread nD τ), SemLoc.dma sS) = kcell (c, snd n) := by rw [hsS]
  have e₂ : (((rot (far n) c : Dev nD) : Thread nD τ), SemLoc.dma sem) = kcell (rot (far n) c, rcv n) := by rw [hsV]
  have h := send_held 𝒱₀ (c : Thread nD τ) none ER (rd m) (k := k) (Q := Q) (c' := (rot (far n) c : Thread nD τ)) (src := src) (dst := dst) (hsc := hsc)
      (sS := .dma sS) (sem := .dma sem) (hsrc := hsrc) (hdst := hdst) (hsem := hsem) (defs := defs₀ (F := F))
      (κ₁ := K (c, snd n)) (κ₂ := K (rot (far n) c, rcv n)) (d₁ := 0) (d₂ := 0)
      (by rw [e₁, duties_at]; exact Finset.mem_singleton_self _) (by rw [e₂, duties_at]; exact Finset.mem_singleton_self _)
      () (cr n) hN (by rw [e₁, amount_at]; rfl) (by rw [e₂, amount_at]; rfl) O (W := W) X Y
      (by rw [e₁, payload_at]; exact hpay₁) (by rw [e₂, payload_at]; exact hpay₂)
  rw [e₁, e₂] at h
  iapply h $$ [Hs Hd HO Ht₁ Ht₂]
  · isplitr; · iapply (know_inv m K (c, snd n)); iexact Hn
    isplitr; · iapply (know_inv m K (rot (far n) c, rcv n)); iexact Hn
    isplitl [Hs]; · iexact Hs
    isplitl [Hd]; · iexact Hd
    isplitl [HO]; · iexact HO
    isplitl [Ht₁]; · iexact Ht₁
    isplitr; · iapply (know_reached m K (c, snd n)); iexact Hn
    isplitl [Ht₂]; · iexact Ht₂
    iapply (know_reached m K (rot (far n) c, rcv n)); iexact Hn
  iintro ⟨Hc, HO⟩
  iapply Hk
  isplitl [Hc]; · iexact Hc
  iexists W; iexact HO

/-- The wait on one of the device's own send or receive cells, nothing owed. -/
theorem take (b : Bool) (n : Fin 5) {sp sp' : Space} {s s' : Shape} {e e' : EltTy} {sem : DmaSem sig}
    {srcw : Memref sig .tc sp' s' e'} {dst : Memref sig .tc sp s e} {hsrc : srcw.view.WordExact} {hdst : dst.view.WordExact}
    (hs : SemLoc.dma sem = csem (some (b, n))) (hN : dst.view.dmaCredit = cr n) {P : sProp 𝕄}
    (hP : bigSep ((rd (F := F) m).duties (kcell (c, some (b, n))) 0 \ ∅) (fun d => (rd (F := F) m).payload (kcell (c, some (b, n))) 0 d) = P) :
    iprop(know m K ∗ cred (tallyAt (kcell (c, some (b, n))) () (cr n)) ∗ owing c 0 ∗ atPos ER (kcell (c, some (b, n))) 0 ∅ 0)
      ⊢ iprop((iprop(P ∗ semVal (kcell (c, some (b, n))) 0 ∗ owing c 0) -∗ runs c (k ⟨⟩) Q)
          -∗ runs c (.op (.waitDma2 sem srcw dst hsrc hdst) k) Q) := by
  subst hP
  unfold owing
  iintro ⟨#Hn, Hc, ⟨%W, HO⟩, Hat⟩ Hk
  have e₁ : (((c : Dev nD) : Thread nD τ), SemLoc.dma sem) = kcell (c, some (b, n)) := by rw [hs]
  have h := Rounds.wp_wait_rest_token 𝒱₀ ER (rd m) (c : Thread nD τ) none (κ := K (c, some (b, n))) (sm := .dma sem) (k := k) (Q := Q)
      (wpE_waitDma2_eq (defs := defs₀ (F := F)) (src := srcw) (dst := dst) (hsrc := hsrc) (hdst := hdst) 𝒱₀ (c : Thread nD τ) none Set.univ) (Set.mem_univ _) () (O := 0) (W := W) (R := 0) (m := 0) (T := ∅)
      (by rw [Nat.zero_add, e₁, expect_msg, hN])
  rw [e₁, hN] at h
  iapply h $$ [Hc HO Hat]
  · isplitr; · iapply (know_inv m K (c, some (b, n))); iexact Hn
    isplitl [Hc]; · iexact Hc
    isplitl [HO]; · iexact HO
    isplitr; · rw [MayWait_zero]; iempintro
    iexact Hat
  iintro ⟨HO, Hat, -, Hpay⟩
  imod (Rounds.cell_close ER (rd m) (Set.mem_univ (K (c, some (b, n)))) (fun h => h) (R := 0 + 1) (duties_later m (kcell (c, some (b, n))))) $$ [Hat] with Hz
  · isplitr; · iapply (know_inv m K (c, some (b, n))); iexact Hn
    iexact Hat
  iapply Hk
  isplitl [Hpay]; · iexact Hpay
  isplitl [Hz]; · iexact Hz
  iexists _; iexact HO

end

/-! ## Chunk conversions -/

theorem some_squeeze {sp : Space} {s s' : Shape} {e : EltTy} (M : Memref sig .tc sp s e) (h : s.Squeezes s') :
    (some_owned (c : Thread nD τ) M : sProp 𝕄) ⊢ some_owned (c : Thread nD τ) (M.squeeze s' h) := by
  unfold some_owned; iintro ⟨%X, H⟩; iexists _; iapply (owns_squeeze (c : Thread nD τ) M fullShare h X); iexact H
theorem some_unsqueeze {sp : Space} {s s' : Shape} {e : EltTy} (M : Memref sig .tc sp s e) (h : s.Squeezes s') :
    (some_owned (c : Thread nD τ) (M.squeeze s' h) : sProp 𝕄) ⊢ some_owned (c : Thread nD τ) M := by
  unfold some_owned; iintro ⟨%X, H⟩; iexists _; iapply (owns_unsqueeze (c : Thread nD τ) M fullShare h X); iexact H
theorem owns_unrecast {sp : Space} {s s' : Shape} {e : EltTy} (M : Memref sig .tc sp s e) (h : s.Squeezes s') (X : s.Idx → Elt F e) :
    (owns (c : Thread nD τ) (M.squeeze s' h) fullShare (recast h.numel_eq X) : sProp 𝕄) ⊢ owns (c : Thread nD τ) M fullShare X := by
  have := owns_unsqueeze (Ix := Unit) (Name := ℕ) (U := UU) (Lvl := ℕ) (c : Thread nD τ) M fullShare h (recast h.numel_eq X)
  rwa [recast_back] at this

end Cert.Own

end
-- ==== Proof.Parts.lean ====
/-
  The kernel's body, part by part, each from what it holds to what it leaves, and the whole of it.
-/
module

public import proofs.«01_k».proof.Proof.Moves

@[expose] public section

noncomputable section

namespace Cert.Own

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Whole-buffer accesses and overwriting -/

abbrev rAll : Rect S1024x2048 := Rect.unit (s := S1024x2048) ![0, 0] S1024x2048.size inb_S1024x2048_S1024x2048_0_0

theorem rAll_emb (j : rAll.shape.Idx) : rAll.emb j = j := by
  funext a; apply Fin.ext; rw [Rect.emb_apply]; fin_cases a <;> simp [rAll, Rect.unit]
theorem all_read {α : Type} (X : S1024x2048.Idx → α) : (fun j => X (rAll.emb j)) = X := funext fun j => congrArg X (rAll_emb j)
theorem all_write {α : Type} (X w : S1024x2048.Idx → α) : rAll.overlay X w = w := funext fun j => by
  have h := Rect.overlay_emb rAll X w j
  rwa [rAll_emb] at h

section
variable (c : Dev nD) {α : Type} {Q : α → sProp (MT nD τ sig Unit (Elt F) ℕ UU ℕ)} {sp : CoreSpace} {s : Shape} {e : EltTy}

theorem runs_ret (a : α) : Q a ⊢ runs c (Prog.ret a) Q := by
  unfold runs; rw [wp_ret]; iintro H; imodintro; iexact H

/-- The old contents read and dropped, the new stored. -/
theorem overwrite {M : Memref sig .tc sp s e} {r : Rect s} (hr : ∀ a, r.stride a = 1) {hl : M.view.LoadsAt r.toLoadRect} {w : r.shape.Idx → Elt F e}
    {hx : (M.access r).Stores Finset.univ} {hm : Finset.univ = Finset.univ ∨ ∀ a, r.stride a = 1}
    {k : PUnit → Prog (TpuEff nD τ sig (Elt F) Λ₀ .tc) α} :
    (some_owned (c : Thread nD τ) (M.slice r hr) : sProp 𝕄)
      ⊢ iprop((owns (c : Thread nD τ) (M.slice r hr) fullShare w -∗ runs c (k ⟨⟩) Q)
        -∗ runs c (.op (.load M r.toLoadRect hl) fun _ => .op (.store M r w Finset.univ hx hm) k) Q) := by
  unfold some_owned
  iintro ⟨%X, H⟩ Hk
  iapply (load_held 𝒱₀ (c : Thread nD τ) none hr fullShare X) $$ H; iintro H
  iapply (store_held 𝒱₀ (c : Thread nD τ) none hr X) $$ H; iintro H
  iapply Hk; iexact H

theorem overwrite_part {M : Memref sig .tc sp s e} {r : Rect s} {hl : M.view.LoadsAt r.toLoadRect} {w : r.shape.Idx → Elt F e}
    {hx : (M.access r).Stores Finset.univ} {hm : Finset.univ = Finset.univ ∨ ∀ a, r.stride a = 1}
    {k : PUnit → Prog (TpuEff nD τ sig (Elt F) Λ₀ .tc) α} (X : s.Idx → Elt F e) :
    (owns (c : Thread nD τ) M fullShare X : sProp 𝕄)
      ⊢ iprop((owns (c : Thread nD τ) M fullShare (r.overlay X w) -∗ runs c (k ⟨⟩) Q)
        -∗ runs c (.op (.load M r.toLoadRect hl) fun _ => .op (.store M r w Finset.univ hx hm) k) Q) := by
  iintro H Hk
  iapply (load_part 𝒱₀ (c : Thread nD τ) none fullShare X) $$ H; iintro H
  iapply (store_part 𝒱₀ (c : Thread nD τ) none X) $$ H; iintro H
  iapply Hk; iexact H
end

variable (m : (ℓ : Loc nD τ sig) → Buf (Elt F) ℓ) (K : Dev nD × Cel → ℕ) (c : Dev nD)

/-! ## The parts -/

abbrev barA : Sems sig S_ := SemArray.scalar (sig.barrier 0 rfl)

abbrev idle (i : DmaSem sig) : sProp 𝕄 := semVal ((c : Thread nD τ), .dma i) 0
abbrev RX : sProp 𝕄 := readable c xA (xv m c)
abbrev RW : sProp 𝕄 := readable c wA (wv m c)
abbrev has {sp : Space} {s : Shape} {e : EltTy} (M : Memref sig .tc sp s e) (X : s.Idx → Elt F e) : sProp 𝕄 := owns (c : Thread nD τ) M fullShare X
abbrev any {sp : Space} {s : Shape} {e : EltTy} (M : Memref sig .tc sp s e) : sProp 𝕄 := some_owned (c : Thread nD τ) M
theorem some_out {sp : Space} {s : Shape} {e : EltTy} (M : Memref sig .tc sp s e) : (any c M : sProp 𝕄) ⊢ iprop(∃ X, has c M X) := by
  unfold any some_owned; iintro H; iexact H
abbrev tok (k : Cel) (t : Fin 3) : sProp 𝕄 := dutyTok ER (kcell (c, k)) 0 t
abbrev here (k : Cel) : sProp 𝕄 := atPos ER (kcell (c, k)) 0 ∅ 0
abbrev due (b : Bool) (n : Fin 5) : sProp 𝕄 := cred (tallyAt (kcell (c, some (b, n))) () (cr n))
abbrev zero (k : Cel) : sProp 𝕄 := semVal (kcell (c, k)) 0

theorem part1 (Kt : _ → sProp 𝕄) :
    iprop(∀ v2 v13 v24 v35, Kt ⟨c, v2, v13, v24, v35⟩) ⊢ runs c (k0_part1 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8) Kt := by
  simp only [k0_part1_eq_skeleton]; unfold k0_part1_skel
  simp only [Prog.lift, Prog.bind_op, Prog.bind_ret, Prog.pure_eq_ret, runs, wp_deviceId]
  iintro Hk
  iapply (runs_ret c)
  iapply Hk

theorem part2 (v2 v13 : BitVec 32) (Kt : _ → sProp 𝕄) :
    iprop((know m K ∗ RX m c ∗ any c T0as ∗ any c T0bs ∗ idle c 1 ∗ idle c 3 ∗ owing c (P1 c) ∗ tok (rot 1 c) bar 2 ∗ slotFree c 2) ∗ (∀ v64 v65, (RX m c ∗ coming c (.dma 1) T0as (fun j : (rA c).shape.Idx => xv m c ((rA c).emb j)) ∗ coming c (.dma 3) T0bs (fun j : (rB c).shape.Idx => xv m c ((rB c).emb j)) ∗ owing c (P2 c)) -∗ Kt ⟨barA, v64, 4#32, v65⟩))
      ⊢ runs c (k0_part2 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8 c v2 v13) Kt := by
  simp only [k0_part2_eq_skeleton]; unfold k0_part2_skel
  simp only [semSignalWord, semWaitWord, Prog.lift, Prog.bind_op, Prog.bind_ret, Prog.pure_eq_ret, wp_deviceId]
  iintro ⟨⟨#Hn, H0, H1, H2, H3, H4, H5, H6, H7⟩, Hk⟩
  iapply (fetch_start c (.dma 1) rfl (show 0 < S512x1024.numel by decide) (xv m c)) $$ [H0 H1 H3]
  · isplitl [H0]; · iexact H0
    isplitl [H1]; · iexact H1
    iexact H3
  iintro ⟨H0, H1⟩
  iapply (fetch_start c (.dma 3) rfl (show 0 < S512x1024.numel by decide) (xv m c)) $$ [H0 H2 H4]
  · isplitl [H0]; · iexact H0
    isplitl [H2]; · iexact H2
    iexact H4
  iintro ⟨H0, H2⟩
  iapply (give m K c 1 2 (rot_rot31 c) (dev1_eq c) rfl (by decide) (P2 c)) $$ [H5 H6 H7]
  · isplitr; · iexact Hn
    isplitl [H5]; · iexact H5
    isplitl [H6]; · iexact H6
    iexact H7
  iintro H5
  iapply (runs_ret c)
  iapply Hk
  isplitl [H0]; · iexact H0
  isplitl [H1]; · iexact H1
  isplitl [H2]; · iexact H2
  iexact H5

theorem part3 (v2 v64 v : BitVec 32) (u : BitVec 1) (Kt : _ → sProp 𝕄) :
    iprop((know m K ∗ owing c (P2 c) ∗ tok (rot 2 c) bar 1 ∗ slotFree c 1 ∗ tok (rot 3 c) bar 0 ∗ slotFree c 0 ∗ cred (tallyAt (kcell (c, bar)) () 3) ∗ here c bar ∗ coming c (.dma 1) T0as (fun j : (rA c).shape.Idx => xv m c ((rA c).emb j))) ∗ ((owing c (S0 c) ∗ zero c bar ∗ slotFree (rot 1 c) 0 ∗ slotFree (rot 2 c) 1 ∗ slotFree (rot 3 c) 2 ∗ has c T0a (vA m c) ∗ idle c 1) -∗ Kt ⟨⟩))
      ⊢ runs c (k0_part3 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8 c v2 (barA) v64 v u) Kt := by
  simp only [k0_part3_eq_skeleton]; unfold k0_part3_skel
  simp only [semSignalWord, semWaitWord, Prog.lift, Prog.bind_op, Prog.bind_ret, Prog.pure_eq_ret, wp_deviceId]
  iintro ⟨⟨#Hn, H0, H1, H2, H3, H4, H5, H6, H7⟩, Hk⟩
  iapply (give m K c 2 1 (rot_rot22 c) (dev2_eq c) rfl (by decide) (P3 c)) $$ [H0 H1 H2]
  · isplitr; · iexact Hn
    isplitl [H0]; · iexact H0
    isplitl [H1]; · iexact H1
    iexact H2
  iintro H0
  iapply (give m K c 3 0 (rot_rot13 c) (dev3_eq c) rfl (by decide) (S0 c)) $$ [H0 H3 H4]
  · isplitr; · iexact Hn
    isplitl [H0]; · iexact H0
    isplitl [H3]; · iexact H3
    iexact H4
  iintro H0
  iapply (take_bar m K c rfl (by decide) (above_S0 c)) $$ [H5 H0 H6]
  · isplitr; · iexact Hn
    isplitl [H5]; · iexact H5
    isplitl [H0]; · iexact H0
    iexact H6
  iintro ⟨H0, H1, H2, H3, H4⟩
  iapply (fetch_wait m K c (.dma 1) rfl _ ((above_S0 c).mono _ (by decide))) $$ [H7 H0]
  · isplitr; · iexact Hn
    isplitl [H7]; · iexact H7
    iexact H0
  iintro ⟨H7, H5, H0⟩
  ihave H7 := (show has c T0as (fun j : (rA c).shape.Idx => xv m c ((rA c).emb j)) ⊢ has c T0a (vA m c) from owns_unsqueeze (c : Thread nD τ) T0a fullShare squeezes_S1x512x1024_S512x1024 _) $$ H7
  iapply (runs_ret c)
  iapply Hk
  isplitl [H0]; · iexact H0
  isplitl [H1]; · iexact H1
  isplitl [H2]; · iexact H2
  isplitl [H3]; · iexact H3
  isplitl [H4]; · iexact H4
  isplitl [H7]; · iexact H7
  iexact H5

theorem part4 (v13 v24 : BitVec 32) (Kt : _ → sProp 𝕄) :
    iprop((know m K ∗ has c T0a (vA m c) ∗ any c X0a ∗ tok c (snd 0) 0 ∗ tok (rot 1 c) (rcv 0) 0 ∗ any (rot 1 c) C0as ∗ owing c (S0 c) ∗ RX m c ∗ any c T1s ∗ idle c 2 ∗ coming c (.dma 3) T0bs (fun j : (rB c).shape.Idx => xv m c ((rB c).emb j))) ∗ ((has c T0a (vA m c) ∗ due c false 0 ∗ owing c (S1 c) ∗ RX m c ∗ coming c (.dma 2) T1s (fun j : (rC c).shape.Idx => xv m c ((rC c).emb j)) ∗ has c T0b (vB m c) ∗ idle c 3) -∗ Kt ⟨⟩))
      ⊢ runs c (k0_part4 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8 c v13 v24) Kt := by
  simp only [k0_part4_eq_skeleton]; unfold k0_part4_skel
  simp only [semSignalWord, semWaitWord, Prog.lift, Prog.bind_op, Prog.bind_ret, Prog.pure_eq_ret, wp_deviceId]
  iintro ⟨⟨#Hn, H0, H1, H2, H3, H4, H5, H6, H7, H8, H9⟩, Hk⟩
  iapply (load_held 𝒱₀ (c : Thread nD τ) none (fun _ => rfl) fullShare (vA m c)) $$ H0; iintro H0
  iapply (overwrite c (fun _ => rfl)) $$ H1; iintro H1
  ihave H1 := (show has c X0a (k0_pay1 (vA m c)) ⊢ has c X0as (msg0 m c) from owns_squeeze (c : Thread nD τ) X0a fullShare squeezes_S1x512x1024_S512x1024 _) $$ H1
  iapply (send m K c 0 (dev4_eq c) (dst := C0as) rfl rfl rfl (msg0 m c) (some_intro (c : Thread nD τ) X0as _)
      (by show _ ⊢ owns _ _ _ (msg0 m (rot 3 (rot 1 c))); rw [rot_rot31]) (S1 c)) $$ [H1 H4 H5 H2 H3]
  · isplitr; · iexact Hn
    isplitl [H1]; · iexact H1
    isplitl [H4]; · iexact H4
    isplitl [H5]; · iexact H5
    isplitl [H2]; · iexact H2
    iexact H3
  iintro ⟨H2, H5⟩
  iapply (fetch_start c (.dma 2) rfl (show 0 < S1024x1024.numel by decide) (xv m c)) $$ [H6 H7 H8]
  · isplitl [H6]; · iexact H6
    isplitl [H7]; · iexact H7
    iexact H8
  iintro ⟨H6, H7⟩
  iapply (fetch_wait m K c (.dma 3) rfl _ ((above_S1 c).mono _ (by decide))) $$ [H9 H5]
  · isplitr; · iexact Hn
    isplitl [H9]; · iexact H9
    iexact H5
  iintro ⟨H9, H8, H5⟩
  ihave H9 := (show has c T0bs (fun j : (rB c).shape.Idx => xv m c ((rB c).emb j)) ⊢ has c T0b (vB m c) from owns_unsqueeze (c : Thread nD τ) T0b fullShare squeezes_S1x512x1024_S512x1024 _) $$ H9
  iapply (runs_ret c)
  iapply Hk
  isplitl [H0]; · iexact H0
  isplitl [H2]; · iexact H2
  isplitl [H5]; · iexact H5
  isplitl [H6]; · iexact H6
  isplitl [H7]; · iexact H7
  isplitl [H9]; · iexact H9
  iexact H8

theorem part5 (v13 : BitVec 32) (Kt : _ → sProp 𝕄) :
    iprop((know m K ∗ has c T0b (vB m c) ∗ any c X0b ∗ tok c (snd 1) 0 ∗ tok (rot 1 c) (rcv 1) 0 ∗ any (rot 1 c) C0bs ∗ owing c (S1 c) ∗ coming c (.dma 2) T1s (fun j : (rC c).shape.Idx => xv m c ((rC c).emb j)) ∗ any c X1) ∗ ((has c T0b (vB m c) ∗ due c false 1 ∗ owing c (S2 c) ∗ has c T1 (vC m c) ∗ idle c 2 ∗ has c X1 (cC m c)) -∗ Kt 1#32))
      ⊢ runs c (k0_part5 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8 c v13) Kt := by
  simp only [k0_part5_eq_skeleton]; unfold k0_part5_skel
  simp only [semSignalWord, semWaitWord, Prog.lift, Prog.bind_op, Prog.bind_ret, Prog.pure_eq_ret, wp_deviceId]
  iintro ⟨⟨#Hn, H0, H1, H2, H3, H4, H5, H6, H7⟩, Hk⟩
  iapply (load_held 𝒱₀ (c : Thread nD τ) none (fun _ => rfl) fullShare (vB m c)) $$ H0; iintro H0
  iapply (overwrite c (fun _ => rfl)) $$ H1; iintro H1
  ihave H1 := (show has c X0b (k0_pay2 (vB m c)) ⊢ has c X0bs (msg1 m c) from owns_squeeze (c : Thread nD τ) X0b fullShare squeezes_S1x512x1024_S512x1024 _) $$ H1
  iapply (send m K c 1 (dev5_eq c) (dst := C0bs) rfl rfl rfl (msg1 m c) (some_intro (c : Thread nD τ) X0bs _)
      (by show _ ⊢ owns _ _ _ (msg1 m (rot 3 (rot 1 c))); rw [rot_rot31]) (S2 c)) $$ [H1 H4 H5 H2 H3]
  · isplitr; · iexact Hn
    isplitl [H1]; · iexact H1
    isplitl [H4]; · iexact H4
    isplitl [H5]; · iexact H5
    isplitl [H2]; · iexact H2
    iexact H3
  iintro ⟨H2, H5⟩
  iapply (fetch_wait m K c (.dma 2) rfl _ ((above_S2 c).mono _ (by decide))) $$ [H6 H5]
  · isplitr; · iexact Hn
    isplitl [H6]; · iexact H6
    iexact H5
  iintro ⟨H6, H1, H5⟩
  ihave H6 := (show has c T1s (fun j : (rC c).shape.Idx => xv m c ((rC c).emb j)) ⊢ has c T1 (vC m c) from owns_unsqueeze (c : Thread nD τ) T1 fullShare squeezes_S1x1024x1024_S1024x1024 _) $$ H6
  iapply (load_held 𝒱₀ (c : Thread nD τ) none (fun _ => rfl) fullShare (vC m c)) $$ H6; iintro H6
  iapply (overwrite c (fun _ => rfl)) $$ H7; iintro H7
  iapply (runs_ret c)
  iapply Hk
  isplitl [H0]; · iexact H0
  isplitl [H2]; · iexact H2
  isplitl [H5]; · iexact H5
  isplitl [H6]; · iexact H6
  isplitl [H1]; · iexact H1
  iexact H7

theorem part6 (v2 v24 v35 v : BitVec 32) (Kt : _ → sProp 𝕄) :
    iprop((know m K ∗ has c X1 (cC m c) ∗ tok c (snd 2) 0 ∗ tok (rot 2 c) (rcv 2) 0 ∗ any (rot 2 c) C1s ∗ owing c (S2 c) ∗ RX m c ∗ any c T0s ∗ idle c 1 ∗ any c T1s ∗ idle c 3) ∗ ((due c false 2 ∗ owing c (S3 c) ∗ RX m c ∗ coming c (.dma 3) T1s (fun j : (rE c).shape.Idx => xv m c ((rE c).emb j)) ∗ has c T0 (vD m c) ∗ idle c 1) -∗ Kt ⟨⟩))
      ⊢ runs c (k0_part6 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8 c v2 v24 v35 v) Kt := by
  simp only [k0_part6_eq_skeleton]; unfold k0_part6_skel
  simp only [semSignalWord, semWaitWord, Prog.lift, Prog.bind_op, Prog.bind_ret, Prog.pure_eq_ret, wp_deviceId]
  iintro ⟨⟨#Hn, H0, H1, H2, H3, H4, H5, H6, H7, H8, H9⟩, Hk⟩
  ihave H0 := (show has c X1 (cC m c) ⊢ has c X1s (msg2 m c) from owns_squeeze (c : Thread nD τ) X1 fullShare squeezes_S1x1024x1024_S1024x1024 _) $$ H0
  iapply (send m K c 2 (dev6_eq c) (dst := C1s) rfl rfl rfl (msg2 m c) (some_intro (c : Thread nD τ) X1s _)
      (by show _ ⊢ owns _ _ _ (msg2 m (rot 2 (rot 2 c))); rw [rot_rot22]) (S3 c)) $$ [H0 H3 H4 H1 H2]
  · isplitr; · iexact Hn
    isplitl [H0]; · iexact H0
    isplitl [H3]; · iexact H3
    isplitl [H4]; · iexact H4
    isplitl [H1]; · iexact H1
    iexact H2
  iintro ⟨H1, H4⟩
  iapply (fetch_start c (.dma 1) rfl (show 0 < S1024x1024.numel by decide) (xv m c)) $$ [H5 H6 H7]
  · isplitl [H5]; · iexact H5
    isplitl [H6]; · iexact H6
    iexact H7
  iintro ⟨H5, H6⟩
  iapply (fetch_start c (.dma 3) rfl (show 0 < S1024x1024.numel by decide) (xv m c)) $$ [H5 H8 H9]
  · isplitl [H5]; · iexact H5
    isplitl [H8]; · iexact H8
    iexact H9
  iintro ⟨H5, H8⟩
  iapply (fetch_wait m K c (.dma 1) rfl _ ((above_S3 c).mono _ (by decide))) $$ [H6 H4]
  · isplitr; · iexact Hn
    isplitl [H6]; · iexact H6
    iexact H4
  iintro ⟨H6, H7, H4⟩
  ihave H6 := (show has c T0s (fun j : (rD c).shape.Idx => xv m c ((rD c).emb j)) ⊢ has c T0 (vD m c) from owns_unsqueeze (c : Thread nD τ) T0 fullShare squeezes_S1x1024x1024_S1024x1024 _) $$ H6
  iapply (runs_ret c)
  iapply Hk
  isplitl [H1]; · iexact H1
  isplitl [H4]; · iexact H4
  isplitl [H5]; · iexact H5
  isplitl [H8]; · iexact H8
  isplitl [H6]; · iexact H6
  iexact H7

theorem cut_X2 (X : S1x1024x1024.Idx → Elt F .bf16) :
    (has c X2 X : sProp 𝕄) ⊢ iprop(has c X2a (fun j => X (hLo.emb j)) ∗ has c X2b (fun j => X (hHi.emb j))) :=
  part_two (c : Thread nD τ) xbM rX2 rX2a rX2b (fun _ => rfl) (fun _ => rfl) (fun _ => rfl) hLo.emb hHi.emb
    (fun j => by funext a; apply Fin.ext; simp only [Rect.emb_apply]; fin_cases a <;> simp [Rect.unit])
    (fun j => by funext a; apply Fin.ext; simp only [Rect.emb_apply]; fin_cases a <;> simp [Rect.unit] <;> omega)
    (unit_disjoint 1 (by decide)) X

theorem part7 (v35 : BitVec 32) (Kt : _ → sProp 𝕄) :
    iprop((know m K ∗ has c T0 (vD m c) ∗ any c X2 ∗ tok c (snd 3) 0 ∗ tok (rot 3 c) (rcv 3) 0 ∗ tok c (snd 4) 0 ∗ tok (rot 3 c) (rcv 4) 0 ∗ any (rot 3 c) C2as ∗ any (rot 3 c) C2bs ∗ owing c (S3 c)) ∗ ((has c T0 (vD m c) ∗ due c false 3 ∗ due c false 4 ∗ owing c 0) -∗ Kt ⟨⟩))
      ⊢ runs c (k0_part7 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8 c v35) Kt := by
  simp only [k0_part7_eq_skeleton]; unfold k0_part7_skel
  simp only [semSignalWord, semWaitWord, Prog.lift, Prog.bind_op, Prog.bind_ret, Prog.pure_eq_ret, wp_deviceId]
  iintro ⟨⟨#Hn, H0, H1, H2, H3, H4, H5, H6, H7, H8⟩, Hk⟩
  iapply (load_held 𝒱₀ (c : Thread nD τ) none (fun _ => rfl) fullShare (vD m c)) $$ H0; iintro H0
  iapply (overwrite c (fun _ => rfl)) $$ H1; iintro H1
  ihave H1 := (cut_X2 c _) $$ H1
  icases H1 with ⟨H1, H9⟩
  ihave H1 := (show has c X2a (fun j => k0_pay4 (vD m c) (hLo.emb j)) ⊢ has c X2as (msg3 m c) from owns_squeeze (c : Thread nD τ) X2a fullShare squeezes_S1x512x1024_S512x1024 _) $$ H1
  ihave H9 := (show has c X2b (fun j => k0_pay4 (vD m c) (hHi.emb j)) ⊢ has c X2bs (msg4 m c) from owns_squeeze (c : Thread nD τ) X2b fullShare squeezes_S1x512x1024_S512x1024 _) $$ H9
  iapply (send m K c 3 (dev7_eq c) (dst := C2as) rfl rfl rfl (msg3 m c) (some_intro (c : Thread nD τ) X2as _)
      (by show _ ⊢ owns _ _ _ (msg3 m (rot 1 (rot 3 c))); rw [rot_rot13]) (S4 c)) $$ [H1 H6 H8 H2 H3]
  · isplitr; · iexact Hn
    isplitl [H1]; · iexact H1
    isplitl [H6]; · iexact H6
    isplitl [H8]; · iexact H8
    isplitl [H2]; · iexact H2
    iexact H3
  iintro ⟨H2, H8⟩
  iapply (send m K c 4 (dev8_eq c) (dst := C2bs) rfl rfl rfl (msg4 m c) (some_intro (c : Thread nD τ) X2bs _)
      (by show _ ⊢ owns _ _ _ (msg4 m (rot 1 (rot 3 c))); rw [rot_rot13]) 0) $$ [H9 H7 H8 H4 H5]
  · isplitr; · iexact Hn
    isplitl [H9]; · iexact H9
    isplitl [H7]; · iexact H7
    isplitl [H8]; · iexact H8
    isplitl [H4]; · iexact H4
    iexact H5
  iintro ⟨H4, H8⟩
  iapply (runs_ret c)
  iapply Hk
  isplitl [H0]; · iexact H0
  isplitl [H2]; · iexact H2
  isplitl [H4]; · iexact H4
  iexact H8

theorem part8 (v2 : BitVec 32) (Kt : _ → sProp 𝕄) :
    iprop((know m K ∗ coming c (.dma 3) T1s (fun j : (rE c).shape.Idx => xv m c ((rE c).emb j)) ∗ owing c 0 ∗ any c X3) ∗ (∀ v226 v237 v240 v241, (has c T1 (vE m c) ∗ idle c 3 ∗ owing c 0 ∗ has c X3 (cE m c)) -∗ Kt ⟨v226, v237, v240, v241⟩))
      ⊢ runs c (k0_part8 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8 c v2) Kt := by
  simp only [k0_part8_eq_skeleton]; unfold k0_part8_skel
  simp only [semSignalWord, semWaitWord, Prog.lift, Prog.bind_op, Prog.bind_ret, Prog.pure_eq_ret, wp_deviceId]
  iintro ⟨⟨#Hn, H0, H1, H2⟩, Hk⟩
  iapply (fetch_wait m K c (.dma 3) rfl _ (Above.zero _)) $$ [H0 H1]
  · isplitr; · iexact Hn
    isplitl [H0]; · iexact H0
    iexact H1
  iintro ⟨H0, H3, H1⟩
  ihave H0 := (show has c T1s (fun j : (rE c).shape.Idx => xv m c ((rE c).emb j)) ⊢ has c T1 (vE m c) from owns_unsqueeze (c : Thread nD τ) T1 fullShare squeezes_S1x1024x1024_S1024x1024 _) $$ H0
  iapply (load_held 𝒱₀ (c : Thread nD τ) none (fun _ => rfl) fullShare (vE m c)) $$ H0; iintro H0
  iapply (overwrite c (fun _ => rfl)) $$ H2; iintro H2
  iapply (runs_ret c)
  iapply Hk
  isplitl [H0]; · iexact H0
  isplitl [H3]; · iexact H3
  isplitl [H1]; · iexact H1
  iexact H2

theorem part9 (v2 v226 v240 v241 : BitVec 32) (Kt : _ → sProp 𝕄) :
    iprop((know m K ∗ RW m c ∗ any c wsM ∗ idle c 4 ∗ any c B0 ∗ has c X3 (cE m c) ∗ any c oM ∗ owing c 0) ∗ (∀ v248, (RW m c ∗ any c wsM ∗ idle c 4 ∗ has c B0 (b0 m c) ∗ has c X3 (cE m c) ∗ has c oM (o1 m c) ∗ owing c 0) -∗ Kt ⟨v248, w1 m c⟩))
      ⊢ runs c (k0_part9 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8 c v2 v226 v240 v241) Kt := by
  simp only [k0_part9_eq_skeleton]; unfold k0_part9_skel
  simp only [semSignalWord, semWaitWord, Prog.lift, Prog.bind_op, Prog.bind_ret, Prog.pure_eq_ret, wp_deviceId]
  iintro ⟨⟨#Hn, H0, H1, H2, H3, H4, H5, H6⟩, Hk⟩
  iapply (fetch_start c (.dma 4) rfl (show 0 < S1024x2048.numel by decide) (wv m c)) $$ [H0 H1 H2]
  · isplitl [H0]; · iexact H0
    isplitl [H1]; · iexact H1
    iexact H2
  iintro ⟨H0, H1⟩
  iapply (fetch_wait m K c (.dma 4) rfl _ (Above.zero _)) $$ [H1 H6]
  · isplitr; · iexact Hn
    isplitl [H1]; · iexact H1
    iexact H6
  iintro ⟨H1, H2, H6⟩
  ihave H1 := (show has c wsM (fun j : (rW0 c).shape.Idx => wv m c ((rW0 c).emb j)) ⊢ has c wsM (w0 m c) from Entails.refl _) $$ H1
  iapply (load_part 𝒱₀ (c : Thread nD τ) none fullShare (w0 m c)) $$ H1; iintro H1
  rw [all_read]
  iapply (overwrite c (fun _ => rfl)) $$ H3; iintro H3
  ihave H3 := (show has c B0 (k0_pay6 (w0 m c)) ⊢ has c B0 (b0 m c) from Entails.refl _) $$ H3
  iapply (load_held 𝒱₀ (c : Thread nD τ) none (fun _ => rfl) fullShare (cE m c)) $$ H4; iintro H4
  iapply (load_held 𝒱₀ (c : Thread nD τ) none (fun _ => rfl) fullShare (b0 m c)) $$ H3; iintro H3
  ihave H5 := (some_out c oM) $$ H5
  icases H5 with ⟨%Y, H5⟩
  iapply (overwrite_part c Y) $$ H5; iintro H5
  rw [all_write]
  ihave H5 := (show has c oM (k0_pay7 (cE m c) (b0 m c)) ⊢ has c oM (o1 m c) from Entails.refl _) $$ H5
  ihave H1 := (some_intro (c : Thread nD τ) wsM _) $$ H1
  iapply (fetch_start c (.dma 4) rfl (show 0 < S1024x2048.numel by decide) (wv m c)) $$ [H0 H1 H2]
  · isplitl [H0]; · iexact H0
    isplitl [H1]; · iexact H1
    iexact H2
  iintro ⟨H0, H1⟩
  iapply (fetch_wait m K c (.dma 4) rfl _ (Above.zero _)) $$ [H1 H6]
  · isplitr; · iexact Hn
    isplitl [H1]; · iexact H1
    iexact H6
  iintro ⟨H1, H2, H6⟩
  ihave H1 := (show has c wsM (fun j : (rW1 c).shape.Idx => wv m c ((rW1 c).emb j)) ⊢ has c wsM (w1 m c) from Entails.refl _) $$ H1
  iapply (load_part 𝒱₀ (c : Thread nD τ) none fullShare (w1 m c)) $$ H1; iintro H1
  rw [all_read]
  ihave H1 := (some_intro (c : Thread nD τ) wsM _) $$ H1
  iapply (runs_ret c)
  iapply Hk
  isplitl [H0]; · iexact H0
  isplitl [H1]; · iexact H1
  isplitl [H2]; · iexact H2
  isplitl [H3]; · iexact H3
  isplitl [H4]; · iexact H4
  isplitl [H5]; · iexact H5
  iexact H6

theorem part10 (v13 : BitVec 32) (Kt : _ → sProp 𝕄) :
    iprop((know m K ∗ any c B1 ∗ due c true 0 ∗ owing c 0 ∗ here c (rcv 0) ∗ has c oM (o1 m c)) ∗ ((has c B1 (b1 m c) ∗ has c C0a (cA m (rot 3 c)) ∗ zero c (rcv 0) ∗ owing c 0 ∗ has c oM (o2 m c)) -∗ Kt ⟨⟩))
      ⊢ runs c (k0_part10 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8 v13 (w1 m c)) Kt := by
  simp only [k0_part10_eq_skeleton]; unfold k0_part10_skel
  simp only [semSignalWord, semWaitWord, Prog.lift, Prog.bind_op, Prog.bind_ret, Prog.pure_eq_ret, wp_deviceId]
  iintro ⟨⟨#Hn, H0, H1, H2, H3, H4⟩, Hk⟩
  iapply (overwrite c (fun _ => rfl)) $$ H0; iintro H0
  ihave H0 := (show has c B1 (k0_pay8 (w1 m c)) ⊢ has c B1 (b1 m c) from Entails.refl _) $$ H0
  iapply (take m K c true 0 (dst := C0as) rfl rfl (rest_rcv m c 0)) $$ [H1 H2 H3]
  · isplitr; · iexact Hn
    isplitl [H1]; · iexact H1
    isplitl [H2]; · iexact H2
    iexact H3
  iintro ⟨H1, H3, H2⟩
  ihave H1 := (show rcvPay m c 0 ⊢ has c C0a (cA m (rot 3 c)) from owns_unrecast c C0a squeezes_S1x512x1024_S512x1024 (cA m (rot 3 c))) $$ H1
  iapply (load_part 𝒱₀ (c : Thread nD τ) none fullShare (o1 m c)) $$ H4; iintro H4
  iapply (load_held 𝒱₀ (c : Thread nD τ) none (fun _ => rfl) fullShare (cA m (rot 3 c))) $$ H1; iintro H1
  iapply (load_held 𝒱₀ (c : Thread nD τ) none (fun _ => rfl) fullShare (b1 m c)) $$ H0; iintro H0
  iapply (overwrite_part c (o1 m c)) $$ H4; iintro H4
  ihave H4 := (show has c oM (rLo.overlay (o1 m c) (k0_pay9 (fun j : rLo.shape.Idx => o1 m c (rLo.emb j)) (cA m (rot 3 c)) (b1 m c))) ⊢ has c oM (o2 m c) from Entails.refl _) $$ H4
  iapply (runs_ret c)
  iapply Hk
  isplitl [H0]; · iexact H0
  isplitl [H1]; · iexact H1
  isplitl [H3]; · iexact H3
  isplitl [H2]; · iexact H2
  iexact H4

theorem part11 (v24 v237 : BitVec 32) (Kt : _ → sProp 𝕄) :
    iprop((know m K ∗ has c B1 (b1 m c) ∗ due c true 1 ∗ owing c 0 ∗ here c (rcv 1) ∗ has c oM (o2 m c) ∗ RW m c ∗ any c wsM ∗ idle c 4 ∗ any c B2) ∗ ((has c B1 (b1 m c) ∗ has c C0b (cB m (rot 3 c)) ∗ zero c (rcv 1) ∗ owing c 0 ∗ has c oM (o3 m c) ∗ RW m c ∗ any c wsM ∗ idle c 4 ∗ has c B2 (b2 m c)) -∗ Kt ⟨⟩))
      ⊢ runs c (k0_part11 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8 c v24 v237) Kt := by
  simp only [k0_part11_eq_skeleton]; unfold k0_part11_skel
  simp only [semSignalWord, semWaitWord, Prog.lift, Prog.bind_op, Prog.bind_ret, Prog.pure_eq_ret, wp_deviceId]
  iintro ⟨⟨#Hn, H0, H1, H2, H3, H4, H5, H6, H7, H8⟩, Hk⟩
  iapply (take m K c true 1 (dst := C0bs) rfl rfl (rest_rcv m c 1)) $$ [H1 H2 H3]
  · isplitr; · iexact Hn
    isplitl [H1]; · iexact H1
    isplitl [H2]; · iexact H2
    iexact H3
  iintro ⟨H1, H3, H2⟩
  ihave H1 := (show rcvPay m c 1 ⊢ has c C0b (cB m (rot 3 c)) from owns_unrecast c C0b squeezes_S1x512x1024_S512x1024 (cB m (rot 3 c))) $$ H1
  iapply (load_part 𝒱₀ (c : Thread nD τ) none fullShare (o2 m c)) $$ H4; iintro H4
  iapply (load_held 𝒱₀ (c : Thread nD τ) none (fun _ => rfl) fullShare (cB m (rot 3 c))) $$ H1; iintro H1
  iapply (load_held 𝒱₀ (c : Thread nD τ) none (fun _ => rfl) fullShare (b1 m c)) $$ H0; iintro H0
  iapply (overwrite_part c (o2 m c)) $$ H4; iintro H4
  ihave H4 := (show has c oM (rHi.overlay (o2 m c) (k0_pay10 (fun j : rHi.shape.Idx => o2 m c (rHi.emb j)) (cB m (rot 3 c)) (b1 m c))) ⊢ has c oM (o3 m c) from Entails.refl _) $$ H4
  iapply (fetch_start c (.dma 4) rfl (show 0 < S1024x2048.numel by decide) (wv m c)) $$ [H5 H6 H7]
  · isplitl [H5]; · iexact H5
    isplitl [H6]; · iexact H6
    iexact H7
  iintro ⟨H5, H6⟩
  iapply (fetch_wait m K c (.dma 4) rfl _ (Above.zero _)) $$ [H6 H2]
  · isplitr; · iexact Hn
    isplitl [H6]; · iexact H6
    iexact H2
  iintro ⟨H6, H7, H2⟩
  ihave H6 := (show has c wsM (fun j : (rW2 c).shape.Idx => wv m c ((rW2 c).emb j)) ⊢ has c wsM (w2 m c) from Entails.refl _) $$ H6
  iapply (load_part 𝒱₀ (c : Thread nD τ) none fullShare (w2 m c)) $$ H6; iintro H6
  rw [all_read]
  iapply (overwrite c (fun _ => rfl)) $$ H8; iintro H8
  ihave H8 := (show has c B2 (k0_pay11 (w2 m c)) ⊢ has c B2 (b2 m c) from Entails.refl _) $$ H8
  ihave H6 := (some_intro (c : Thread nD τ) wsM _) $$ H6
  iapply (runs_ret c)
  iapply Hk
  isplitl [H0]; · iexact H0
  isplitl [H1]; · iexact H1
  isplitl [H3]; · iexact H3
  isplitl [H2]; · iexact H2
  isplitl [H4]; · iexact H4
  isplitl [H5]; · iexact H5
  isplitl [H6]; · iexact H6
  isplitl [H7]; · iexact H7
  iexact H8

theorem part12 (v35 v248 : BitVec 32) (Kt : _ → sProp 𝕄) :
    iprop((know m K ∗ has c B2 (b2 m c) ∗ due c true 2 ∗ owing c 0 ∗ here c (rcv 2) ∗ has c oM (o3 m c) ∗ RW m c ∗ any c wsM ∗ idle c 4 ∗ any c B3) ∗ ((has c B2 (b2 m c) ∗ has c C1 (cC m (rot 2 c)) ∗ zero c (rcv 2) ∗ owing c 0 ∗ has c oM (o4 m c) ∗ RW m c ∗ any c wsM ∗ idle c 4 ∗ has c B3 (b3 m c)) -∗ Kt ⟨⟩))
      ⊢ runs c (k0_part12 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8 c v35 v248) Kt := by
  simp only [k0_part12_eq_skeleton]; unfold k0_part12_skel
  simp only [semSignalWord, semWaitWord, Prog.lift, Prog.bind_op, Prog.bind_ret, Prog.pure_eq_ret, wp_deviceId]
  iintro ⟨⟨#Hn, H0, H1, H2, H3, H4, H5, H6, H7, H8⟩, Hk⟩
  iapply (take m K c true 2 (dst := C1s) rfl rfl (rest_rcv m c 2)) $$ [H1 H2 H3]
  · isplitr; · iexact Hn
    isplitl [H1]; · iexact H1
    isplitl [H2]; · iexact H2
    iexact H3
  iintro ⟨H1, H3, H2⟩
  ihave H1 := (show rcvPay m c 2 ⊢ has c C1 (cC m (rot 2 c)) from owns_unrecast c C1 squeezes_S1x1024x1024_S1024x1024 (cC m (rot 2 c))) $$ H1
  iapply (load_part 𝒱₀ (c : Thread nD τ) none fullShare (o3 m c)) $$ H4; iintro H4
  rw [all_read]
  iapply (load_held 𝒱₀ (c : Thread nD τ) none (fun _ => rfl) fullShare (cC m (rot 2 c))) $$ H1; iintro H1
  iapply (load_held 𝒱₀ (c : Thread nD τ) none (fun _ => rfl) fullShare (b2 m c)) $$ H0; iintro H0
  iapply (overwrite_part c (o3 m c)) $$ H4; iintro H4
  rw [all_write]
  ihave H4 := (show has c oM (k0_pay12 (o3 m c) (cC m (rot 2 c)) (b2 m c)) ⊢ has c oM (o4 m c) from Entails.refl _) $$ H4
  iapply (fetch_start c (.dma 4) rfl (show 0 < S1024x2048.numel by decide) (wv m c)) $$ [H5 H6 H7]
  · isplitl [H5]; · iexact H5
    isplitl [H6]; · iexact H6
    iexact H7
  iintro ⟨H5, H6⟩
  iapply (fetch_wait m K c (.dma 4) rfl _ (Above.zero _)) $$ [H6 H2]
  · isplitr; · iexact Hn
    isplitl [H6]; · iexact H6
    iexact H2
  iintro ⟨H6, H7, H2⟩
  ihave H6 := (show has c wsM (fun j : (rW3 c).shape.Idx => wv m c ((rW3 c).emb j)) ⊢ has c wsM (w3 m c) from Entails.refl _) $$ H6
  iapply (load_part 𝒱₀ (c : Thread nD τ) none fullShare (w3 m c)) $$ H6; iintro H6
  rw [all_read]
  iapply (overwrite c (fun _ => rfl)) $$ H8; iintro H8
  ihave H8 := (show has c B3 (k0_pay13 (w3 m c)) ⊢ has c B3 (b3 m c) from Entails.refl _) $$ H8
  ihave H6 := (some_intro (c : Thread nD τ) wsM _) $$ H6
  iapply (runs_ret c)
  iapply Hk
  isplitl [H0]; · iexact H0
  isplitl [H1]; · iexact H1
  isplitl [H3]; · iexact H3
  isplitl [H2]; · iexact H2
  isplitl [H4]; · iexact H4
  isplitl [H5]; · iexact H5
  isplitl [H6]; · iexact H6
  isplitl [H7]; · iexact H7
  iexact H8

theorem part13 (v35 : BitVec 32) (Kt : _ → sProp 𝕄) :
    iprop((know m K ∗ has c B3 (b3 m c) ∗ due c true 3 ∗ owing c 0 ∗ here c (rcv 3) ∗ has c oM (o4 m c) ∗ due c true 4 ∗ here c (rcv 4)) ∗ ((has c B3 (b3 m c) ∗ has c C2a (cDa m (rot 1 c)) ∗ zero c (rcv 3) ∗ owing c 0 ∗ has c oM (o6 m c) ∗ has c C2b (cDb m (rot 1 c)) ∗ zero c (rcv 4)) -∗ Kt ⟨⟩))
      ⊢ runs c (k0_part13 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8 v35) Kt := by
  simp only [k0_part13_eq_skeleton]; unfold k0_part13_skel
  simp only [semSignalWord, semWaitWord, Prog.lift, Prog.bind_op, Prog.bind_ret, Prog.pure_eq_ret, wp_deviceId]
  iintro ⟨⟨#Hn, H0, H1, H2, H3, H4, H5, H6⟩, Hk⟩
  iapply (take m K c true 3 (dst := C2as) rfl rfl (rest_rcv m c 3)) $$ [H1 H2 H3]
  · isplitr; · iexact Hn
    isplitl [H1]; · iexact H1
    isplitl [H2]; · iexact H2
    iexact H3
  iintro ⟨H1, H3, H2⟩
  ihave H1 := (show rcvPay m c 3 ⊢ has c C2a (cDa m (rot 1 c)) from owns_unrecast c C2a squeezes_S1x512x1024_S512x1024 (cDa m (rot 1 c))) $$ H1
  iapply (load_part 𝒱₀ (c : Thread nD τ) none fullShare (o4 m c)) $$ H4; iintro H4
  iapply (load_held 𝒱₀ (c : Thread nD τ) none (fun _ => rfl) fullShare (cDa m (rot 1 c))) $$ H1; iintro H1
  iapply (load_held 𝒱₀ (c : Thread nD τ) none (fun _ => rfl) fullShare (b3 m c)) $$ H0; iintro H0
  iapply (overwrite_part c (o4 m c)) $$ H4; iintro H4
  ihave H4 := (show has c oM (rLo.overlay (o4 m c) (k0_pay14 (fun j : rLo.shape.Idx => o4 m c (rLo.emb j)) (cDa m (rot 1 c)) (b3 m c))) ⊢ has c oM (o5 m c) from Entails.refl _) $$ H4
  iapply (load_part 𝒱₀ (c : Thread nD τ) none fullShare (o5 m c)) $$ H4; iintro H4
  iapply (overwrite_part c (o5 m c)) $$ H4; iintro H4
  ihave H4 := (show has c oM (rLo.overlay (o5 m c) (k0_pay15 (fun j : rLo.shape.Idx => o5 m c (rLo.emb j)))) ⊢ has c oM (o6 m c) from Entails.refl _) $$ H4
  iapply (take m K c true 4 (dst := C2bs) rfl rfl (rest_rcv m c 4)) $$ [H5 H2 H6]
  · isplitr; · iexact Hn
    isplitl [H5]; · iexact H5
    isplitl [H2]; · iexact H2
    iexact H6
  iintro ⟨H5, H6, H2⟩
  ihave H5 := (show rcvPay m c 4 ⊢ has c C2b (cDb m (rot 1 c)) from owns_unrecast c C2b squeezes_S1x512x1024_S512x1024 (cDb m (rot 1 c))) $$ H5
  iapply (runs_ret c)
  iapply Hk
  isplitl [H0]; · iexact H0
  isplitl [H1]; · iexact H1
  isplitl [H3]; · iexact H3
  isplitl [H2]; · iexact H2
  isplitl [H4]; · iexact H4
  isplitl [H5]; · iexact H5
  iexact H6

theorem part14 (Kt : _ → sProp 𝕄) :
    iprop((know m K ∗ has c B3 (b3 m c) ∗ has c C2b (cDb m (rot 1 c)) ∗ owing c 0 ∗ has c oM (o6 m c) ∗ due c false 0 ∗ here c (snd 0)) ∗ ((has c B3 (b3 m c) ∗ has c C2b (cDb m (rot 1 c)) ∗ owing c 0 ∗ has c oM (o8 m c) ∗ any c X0as ∗ zero c (snd 0)) -∗ Kt ⟨⟩))
      ⊢ runs c (k0_part14 (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8) Kt := by
  simp only [k0_part14_eq_skeleton]; unfold k0_part14_skel
  simp only [semSignalWord, semWaitWord, Prog.lift, Prog.bind_op, Prog.bind_ret, Prog.pure_eq_ret, wp_deviceId]
  iintro ⟨⟨#Hn, H0, H1, H2, H3, H4, H5⟩, Hk⟩
  iapply (load_part 𝒱₀ (c : Thread nD τ) none fullShare (o6 m c)) $$ H3; iintro H3
  iapply (load_held 𝒱₀ (c : Thread nD τ) none (fun _ => rfl) fullShare (cDb m (rot 1 c))) $$ H1; iintro H1
  iapply (load_held 𝒱₀ (c : Thread nD τ) none (fun _ => rfl) fullShare (b3 m c)) $$ H0; iintro H0
  iapply (overwrite_part c (o6 m c)) $$ H3; iintro H3
  ihave H3 := (show has c oM (rHi.overlay (o6 m c) (k0_pay16 (fun j : rHi.shape.Idx => o6 m c (rHi.emb j)) (cDb m (rot 1 c)) (b3 m c))) ⊢ has c oM (o7 m c) from Entails.refl _) $$ H3
  iapply (load_part 𝒱₀ (c : Thread nD τ) none fullShare (o7 m c)) $$ H3; iintro H3
  iapply (overwrite_part c (o7 m c)) $$ H3; iintro H3
  ihave H3 := (show has c oM (rHi.overlay (o7 m c) (k0_pay17 (fun j : rHi.shape.Idx => o7 m c (rHi.emb j)))) ⊢ has c oM (o8 m c) from Entails.refl _) $$ H3
  iapply (take m K c false 0 (dst := X0as) rfl rfl (rest_snd m c 0)) $$ [H4 H2 H5]
  · isplitr; · iexact Hn
    isplitl [H4]; · iexact H4
    isplitl [H2]; · iexact H2
    iexact H5
  iintro ⟨H4, H5, H2⟩
  ihave H4 := (show sndPay c 0 ⊢ any c X0as from Entails.refl _) $$ H4
  iapply (runs_ret c)
  iapply Hk
  isplitl [H0]; · iexact H0
  isplitl [H1]; · iexact H1
  isplitl [H2]; · iexact H2
  isplitl [H3]; · iexact H3
  isplitl [H4]; · iexact H4
  iexact H5

end Cert.Own

end
-- ==== Proof.Whole.lean ====
/-
  The kernel's body as a whole: what a device starts it with, and what it leaves.
-/
module

public import proofs.«01_k».proof.Proof.Parts

@[expose] public section

noncomputable section

namespace Cert.Own

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cel → ℕ) (c : Dev nD)

/-! ## What the body starts with and leaves -/

/-- The duties the device pays. -/
def toks : sProp 𝕄 :=
  iprop(tok (rot 1 c) bar 2 ∗ tok (rot 2 c) bar 1 ∗ tok (rot 3 c) bar 0
    ∗ tok c (snd 0) 0 ∗ tok c (snd 1) 0 ∗ tok c (snd 2) 0 ∗ tok c (snd 3) 0 ∗ tok c (snd 4) 0
    ∗ tok (rot 1 c) (rcv 0) 0 ∗ tok (rot 1 c) (rcv 1) 0 ∗ tok (rot 2 c) (rcv 2) 0 ∗ tok (rot 3 c) (rcv 3) 0 ∗ tok (rot 3 c) (rcv 4) 0)
def places : sProp 𝕄 :=
  iprop(here c bar ∗ here c (snd 0) ∗ here c (snd 1) ∗ here c (snd 2) ∗ here c (snd 3) ∗ here c (snd 4)
    ∗ here c (rcv 0) ∗ here c (rcv 1) ∗ here c (rcv 2) ∗ here c (rcv 3) ∗ here c (rcv 4))
def dues : sProp 𝕄 :=
  iprop(cred (tallyAt (kcell (c, bar)) () 3) ∗ due c true 0 ∗ due c true 1 ∗ due c true 2 ∗ due c true 3 ∗ due c true 4)
def idles : sProp 𝕄 := iprop(idle c 1 ∗ idle c 2 ∗ idle c 3 ∗ idle c 4)
def zeros : sProp 𝕄 :=
  iprop(zero c (snd 0) ∗ zero c (snd 1) ∗ zero c (snd 2) ∗ zero c (snd 3) ∗ zero c (snd 4)
    ∗ zero c (rcv 0) ∗ zero c (rcv 1) ∗ zero c (rcv 2) ∗ zero c (rcv 3) ∗ zero c (rcv 4))
def roomX : sProp 𝕄 := iprop(any c X0a ∗ any c X0b ∗ any c X1 ∗ any c X2 ∗ any c X3)
def roomB : sProp 𝕄 := iprop(any c B0 ∗ any c B1 ∗ any c B2 ∗ any c B3)
def roomC : sProp 𝕄 := iprop(any c C0a ∗ any c C0b ∗ any c C1 ∗ any c C2a ∗ any c C2b)
def roomT : sProp 𝕄 := iprop(any c T0a ∗ any c T0b ∗ any c T1)

def before : sProp 𝕄 :=
  iprop(RX m c ∗ RW m c ∗ idles c ∗ toks c ∗ places c ∗ dues c ∗ owing c (P1 c) ∗ roomX c ∗ roomB c ∗ roomC c ∗ roomT c ∗ any c wsM ∗ any c oM)
def afterwards : sProp 𝕄 :=
  iprop(RX m c ∗ RW m c ∗ idles c ∗ zeros c ∗ zero c bar ∗ owing c 0 ∗ roomX c ∗ roomB c ∗ roomC c ∗ roomT c ∗ any c wsM ∗ has c oM (o8 m c))

theorem join_T0 : iprop(any c T0a ∗ any c T0b) ⊢ (any c T0 : sProp 𝕄) :=
  part_join (c : Thread nD τ) xsM rT0 rT0a rT0b (fun _ => rfl) (fun _ => rfl) (fun _ => rfl)
    (by ext x; rw [Finset.mem_union, Rect.mem_set_unit, Rect.mem_set_unit, Rect.mem_set_unit]
        simp only [Fin.forall_fin_succ, Fin.forall_fin_zero]
        simp [S1x1024x1024, S1x512x1024]
        omega) (unit_disjoint 1 (by decide))
theorem join_X2 : iprop(any c X2a ∗ any c X2b) ⊢ (any c X2 : sProp 𝕄) :=
  part_join (c : Thread nD τ) xbM rX2 rX2a rX2b (fun _ => rfl) (fun _ => rfl) (fun _ => rfl)
    (by ext x; rw [Finset.mem_union, Rect.mem_set_unit, Rect.mem_set_unit, Rect.mem_set_unit]
        simp only [Fin.forall_fin_succ, Fin.forall_fin_zero]
        simp [S1x1024x1024, S1x512x1024]
        omega) (unit_disjoint 1 (by decide))
theorem cut_T0 : (any c T0 : sProp 𝕄) ⊢ iprop(any c T0a ∗ any c T0b) := by
  unfold any some_owned
  iintro ⟨%X, H⟩
  ihave H := (part_two (c : Thread nD τ) xsM rT0 rT0a rT0b (fun _ => rfl) (fun _ => rfl) (fun _ => rfl) hLo.emb hHi.emb
    (fun j => by funext a; apply Fin.ext; simp only [Rect.emb_apply]; fin_cases a <;> simp [Rect.unit])
    (fun j => by funext a; apply Fin.ext; simp only [Rect.emb_apply]; fin_cases a <;> simp [Rect.unit] <;> omega)
    (unit_disjoint 1 (by decide)) X) $$ H
  icases H with ⟨H, H'⟩
  isplitl [H]
  · iexists _; iexact H
  · iexists _; iexact H'

theorem runs_bind {α β : Type} {Q : β → sProp (MT nD τ sig Unit (Elt F) ℕ UU ℕ)} (p : Prog (TpuEff nD τ sig (Elt F) Λ₀ .tc) α) (k : α → Prog (TpuEff nD τ sig (Elt F) Λ₀ .tc) β) :
    runs c p (fun a => runs c (k a) Q) ⊢ runs c (p >>= k) Q := by
  unfold runs; exact Entails.of_eq (wp_bind ..).symm

set_option maxHeartbeats 800000 in
/-- The body. -/
theorem sound_body (Kt : PUnit → sProp 𝕄) :
    iprop((know m K ∗ before m c) ∗ (afterwards m c -∗ Kt ⟨⟩)) ⊢ runs c (cc0_body (F := F) xA (Memref.isWhole_whole _) wA (Memref.isWhole_whole _) oM (Memref.isWhole_whole _) xbM (Memref.isWhole_whole _) wbM (Memref.isWhole_whole _) cmM (Memref.isWhole_whole _) xsM (Memref.isWhole_whole _) wsM (Memref.isWhole_whole _) cc0_scratch5 cc0_scratch6 cc0_scratch7 cc0_scratch8) Kt := by
  simp only [cc0_body_eq_skeleton]; unfold cc0_body_skel
  simp only [k0_part15_eq_skeleton]; unfold k0_part15_skel
  simp only [Prog.lift, Prog.bind_op, Prog.bind_ret, Prog.pure_eq_ret, Prog.bind_assoc]
  unfold before idles toks places dues roomX roomB roomC roomT
  iintro ⟨⟨#Hn, RX, RW, ⟨i1, i2, i3, i4⟩, ⟨tb2, tb1, tb0, ts0, ts1, ts2, ts3, ts4, tr0, tr1, tr2, tr3, tr4⟩,
    ⟨hb, hs0, hs1, hs2, hs3, hs4, hr0, hr1, hr2, hr3, hr4⟩, ⟨cb, cr0, cr1, cr2, cr3, cr4⟩, HO, ⟨X0a, X0b, X1, X2, X3⟩, ⟨B0, B1, B2, B3⟩,
    ⟨C0a, C0b, C1, C2a, C2b⟩, ⟨T0a, T0b, T1⟩, ws, oo⟩, Hk⟩
  ihave T0a := (some_squeeze c T0a squeezes_S1x512x1024_S512x1024) $$ T0a
  ihave T0b := (some_squeeze c T0b squeezes_S1x512x1024_S512x1024) $$ T0b
  ihave T1 := (some_squeeze c T1 squeezes_S1x1024x1024_S1024x1024) $$ T1
  ihave C0a := (some_squeeze c C0a squeezes_S1x512x1024_S512x1024) $$ C0a
  ihave C0b := (some_squeeze c C0b squeezes_S1x512x1024_S512x1024) $$ C0b
  ihave C1 := (some_squeeze c C1 squeezes_S1x1024x1024_S1024x1024) $$ C1
  ihave C2a := (some_squeeze c C2a squeezes_S1x512x1024_S512x1024) $$ C2a
  ihave C2b := (some_squeeze c C2b squeezes_S1x512x1024_S512x1024) $$ C2b
  ihave F0 := (show iprop(any c C0as ∗ any c C0bs) ⊢ slotFree c 0 from Entails.refl _) $$ [C0a C0b]
  · isplitl [C0a] <;> iassumption
  ihave F1 := (show any c C1s ⊢ slotFree c 1 from Entails.refl _) $$ C1
  ihave F2 := (show iprop(any c C2as ∗ any c C2bs) ⊢ slotFree c 2 from Entails.refl _) $$ [C2a C2b]
  · isplitl [C2a] <;> iassumption
  iapply (runs_bind c)
  iapply (part1 c _)
  iintro %v2 %v13 %v24 %v35
  dsimp only
  iapply (runs_bind c)
  iapply (part2 m K c _ _ _)
  isplitl [RX T0a T0b i1 i3 HO tb2 F2]
  · isplitr; · iexact Hn
    isplitl [RX]; · iexact RX
    isplitl [T0a]; · iexact T0a
    isplitl [T0b]; · iexact T0b
    isplitl [i1]; · iexact i1
    isplitl [i3]; · iexact i3
    isplitl [HO]; · iexact HO
    isplitl [tb2]; · iexact tb2
    iexact F2
  iintro %v64 %v65 ⟨RX, T0a, T0b, HO⟩
  dsimp only
  iapply (runs_bind c)
  iapply (part3 m K c _ _ _ _ _)
  isplitl [HO tb1 F1 tb0 F0 cb hb T0a]
  · isplitr; · iexact Hn
    isplitl [HO]; · iexact HO
    isplitl [tb1]; · iexact tb1
    isplitl [F1]; · iexact F1
    isplitl [tb0]; · iexact tb0
    isplitl [F0]; · iexact F0
    isplitl [cb]; · iexact cb
    isplitl [hb]; · iexact hb
    iexact T0a
  iintro ⟨HO, zb, C0, C1, C2, T0a, i1⟩
  ihave C0 := (show slotFree (rot 1 c) 0 ⊢ iprop(any (rot 1 c) C0as ∗ any (rot 1 c) C0bs) from Entails.refl _) $$ C0
  icases C0 with ⟨C0a, C0b⟩
  ihave C1 := (show slotFree (rot 2 c) 1 ⊢ any (rot 2 c) C1s from Entails.refl _) $$ C1
  ihave C2 := (show slotFree (rot 3 c) 2 ⊢ iprop(any (rot 3 c) C2as ∗ any (rot 3 c) C2bs) from Entails.refl _) $$ C2
  icases C2 with ⟨C2a, C2b⟩
  iapply (runs_bind c)
  iapply (part4 m K c _ _ _)
  isplitl [T0a X0a ts0 tr0 C0a HO RX T1 i2 T0b]
  · isplitr; · iexact Hn
    isplitl [T0a]; · iexact T0a
    isplitl [X0a]; · iexact X0a
    isplitl [ts0]; · iexact ts0
    isplitl [tr0]; · iexact tr0
    isplitl [C0a]; · iexact C0a
    isplitl [HO]; · iexact HO
    isplitl [RX]; · iexact RX
    isplitl [T1]; · iexact T1
    isplitl [i2]; · iexact i2
    iexact T0b
  iintro ⟨T0a, cs0, HO, RX, T1, T0b, i3⟩
  iapply (runs_bind c)
  iapply (part5 m K c _ _)
  isplitl [T0b X0b ts1 tr1 C0b HO T1 X1]
  · isplitr; · iexact Hn
    isplitl [T0b]; · iexact T0b
    isplitl [X0b]; · iexact X0b
    isplitl [ts1]; · iexact ts1
    isplitl [tr1]; · iexact tr1
    isplitl [C0b]; · iexact C0b
    isplitl [HO]; · iexact HO
    isplitl [T1]; · iexact T1
    iexact X1
  iintro ⟨T0b, cs1, HO, T1, i2, X1⟩
  ihave T0a := (some_intro (c : Thread nD τ) T0a _) $$ T0a
  ihave T0b := (some_intro (c : Thread nD τ) T0b _) $$ T0b
  ihave T1 := (some_intro (c : Thread nD τ) T1 _) $$ T1
  ihave T0 := (join_T0 c) $$ [T0a T0b]
  · isplitl [T0a] <;> iassumption
  ihave T0 := (some_squeeze c T0 squeezes_S1x1024x1024_S1024x1024) $$ T0
  ihave T1 := (some_squeeze c T1 squeezes_S1x1024x1024_S1024x1024) $$ T1
  iapply (runs_bind c)
  iapply (part6 m K c _ _ _ _ _)
  isplitl [X1 ts2 tr2 C1 HO RX T0 i1 T1 i3]
  · isplitr; · iexact Hn
    isplitl [X1]; · iexact X1
    isplitl [ts2]; · iexact ts2
    isplitl [tr2]; · iexact tr2
    isplitl [C1]; · iexact C1
    isplitl [HO]; · iexact HO
    isplitl [RX]; · iexact RX
    isplitl [T0]; · iexact T0
    isplitl [i1]; · iexact i1
    isplitl [T1]; · iexact T1
    iexact i3
  iintro ⟨cs2, HO, RX, T1, T0, i1⟩
  iapply (runs_bind c)
  iapply (part7 m K c _ _)
  isplitl [T0 X2 ts3 tr3 ts4 tr4 C2a C2b HO]
  · isplitr; · iexact Hn
    isplitl [T0]; · iexact T0
    isplitl [X2]; · iexact X2
    isplitl [ts3]; · iexact ts3
    isplitl [tr3]; · iexact tr3
    isplitl [ts4]; · iexact ts4
    isplitl [tr4]; · iexact tr4
    isplitl [C2a]; · iexact C2a
    isplitl [C2b]; · iexact C2b
    iexact HO
  iintro ⟨T0, cs3, cs4, HO⟩
  iapply (runs_bind c)
  iapply (part8 m K c _ _)
  isplitl [T1 HO X3]
  · isplitr; · iexact Hn
    isplitl [T1]; · iexact T1
    isplitl [HO]; · iexact HO
    iexact X3
  iintro %v226 %v237 %v240 %v241 ⟨T1, i3, HO, X3⟩
  dsimp only
  iapply (runs_bind c)
  iapply (part9 m K c _ _ _ _ _)
  isplitl [RW ws i4 B0 X3 oo HO]
  · isplitr; · iexact Hn
    isplitl [RW]; · iexact RW
    isplitl [ws]; · iexact ws
    isplitl [i4]; · iexact i4
    isplitl [B0]; · iexact B0
    isplitl [X3]; · iexact X3
    isplitl [oo]; · iexact oo
    iexact HO
  iintro %v248 ⟨RW, ws, i4, B0, X3, oo, HO⟩
  dsimp only
  iapply (runs_bind c)
  iapply (part10 m K c _ _)
  isplitl [B1 cr0 HO hr0 oo]
  · isplitr; · iexact Hn
    isplitl [B1]; · iexact B1
    isplitl [cr0]; · iexact cr0
    isplitl [HO]; · iexact HO
    isplitl [hr0]; · iexact hr0
    iexact oo
  iintro ⟨B1, C0a, zr0, HO, oo⟩
  iapply (runs_bind c)
  iapply (part11 m K c _ _ _)
  isplitl [B1 cr1 HO hr1 oo RW ws i4 B2]
  · isplitr; · iexact Hn
    isplitl [B1]; · iexact B1
    isplitl [cr1]; · iexact cr1
    isplitl [HO]; · iexact HO
    isplitl [hr1]; · iexact hr1
    isplitl [oo]; · iexact oo
    isplitl [RW]; · iexact RW
    isplitl [ws]; · iexact ws
    isplitl [i4]; · iexact i4
    iexact B2
  iintro ⟨B1, C0b, zr1, HO, oo, RW, ws, i4, B2⟩
  iapply (runs_bind c)
  iapply (part12 m K c _ _ _)
  isplitl [B2 cr2 HO hr2 oo RW ws i4 B3]
  · isplitr; · iexact Hn
    isplitl [B2]; · iexact B2
    isplitl [cr2]; · iexact cr2
    isplitl [HO]; · iexact HO
    isplitl [hr2]; · iexact hr2
    isplitl [oo]; · iexact oo
    isplitl [RW]; · iexact RW
    isplitl [ws]; · iexact ws
    isplitl [i4]; · iexact i4
    iexact B3
  iintro ⟨B2, C1, zr2, HO, oo, RW, ws, i4, B3⟩
  iapply (runs_bind c)
  iapply (part13 m K c _ _)
  isplitl [B3 cr3 HO hr3 oo cr4 hr4]
  · isplitr; · iexact Hn
    isplitl [B3]; · iexact B3
    isplitl [cr3]; · iexact cr3
    isplitl [HO]; · iexact HO
    isplitl [hr3]; · iexact hr3
    isplitl [oo]; · iexact oo
    isplitl [cr4]; · iexact cr4
    iexact hr4
  iintro ⟨B3, C2a, zr3, HO, oo, C2b, zr4⟩
  iapply (runs_bind c)
  iapply (part14 m K c _)
  isplitl [B3 C2b HO oo cs0 hs0]
  · isplitr; · iexact Hn
    isplitl [B3]; · iexact B3
    isplitl [C2b]; · iexact C2b
    isplitl [HO]; · iexact HO
    isplitl [oo]; · iexact oo
    isplitl [cs0]; · iexact cs0
    iexact hs0
  iintro ⟨B3, C2b, HO, oo, X0a, hs0⟩
  iapply (take m K c false 1 (dst := X0bs) rfl rfl (rest_snd m c 1)) $$ [cs1 HO hs1]
  · isplitr; · iexact Hn
    isplitl [cs1]; · iexact cs1
    isplitl [HO]; · iexact HO
    iexact hs1
  iintro ⟨X0b, hs1, HO⟩
  ihave X0b := (show sndPay c 1 ⊢ any c X0bs from Entails.refl _) $$ X0b
  iapply (take m K c false 2 (dst := X1s) rfl rfl (rest_snd m c 2)) $$ [cs2 HO hs2]
  · isplitr; · iexact Hn
    isplitl [cs2]; · iexact cs2
    isplitl [HO]; · iexact HO
    iexact hs2
  iintro ⟨X1, hs2, HO⟩
  ihave X1 := (show sndPay c 2 ⊢ any c X1s from Entails.refl _) $$ X1
  iapply (take m K c false 3 (dst := X2as) rfl rfl (rest_snd m c 3)) $$ [cs3 HO hs3]
  · isplitr; · iexact Hn
    isplitl [cs3]; · iexact cs3
    isplitl [HO]; · iexact HO
    iexact hs3
  iintro ⟨X2a, hs3, HO⟩
  ihave X2a := (show sndPay c 3 ⊢ any c X2as from Entails.refl _) $$ X2a
  iapply (take m K c false 4 (dst := X2bs) rfl rfl (rest_snd m c 4)) $$ [cs4 HO hs4]
  · isplitr; · iexact Hn
    isplitl [cs4]; · iexact cs4
    isplitl [HO]; · iexact HO
    iexact hs4
  iintro ⟨X2b, hs4, HO⟩
  ihave X2b := (show sndPay c 4 ⊢ any c X2bs from Entails.refl _) $$ X2b
  iapply (runs_ret c)
  iapply Hk
  ihave X0a := (some_unsqueeze c X0a squeezes_S1x512x1024_S512x1024) $$ X0a
  ihave X0b := (some_unsqueeze c X0b squeezes_S1x512x1024_S512x1024) $$ X0b
  ihave X1 := (some_unsqueeze c X1 squeezes_S1x1024x1024_S1024x1024) $$ X1
  ihave X2a := (some_unsqueeze c X2a squeezes_S1x512x1024_S512x1024) $$ X2a
  ihave X2b := (some_unsqueeze c X2b squeezes_S1x512x1024_S512x1024) $$ X2b
  ihave X3 := (some_intro (c : Thread nD τ) X3 _) $$ X3
  ihave B0 := (some_intro (c : Thread nD τ) B0 _) $$ B0
  ihave B1 := (some_intro (c : Thread nD τ) B1 _) $$ B1
  ihave B2 := (some_intro (c : Thread nD τ) B2 _) $$ B2
  ihave B3 := (some_intro (c : Thread nD τ) B3 _) $$ B3
  ihave C0a := (some_intro (c : Thread nD τ) C0a _) $$ C0a
  ihave C0b := (some_intro (c : Thread nD τ) C0b _) $$ C0b
  ihave C1 := (some_intro (c : Thread nD τ) C1 _) $$ C1
  ihave C2a := (some_intro (c : Thread nD τ) C2a _) $$ C2a
  ihave C2b := (some_intro (c : Thread nD τ) C2b _) $$ C2b
  ihave T0 := (some_intro (c : Thread nD τ) T0 _) $$ T0
  ihave T1 := (some_intro (c : Thread nD τ) T1 _) $$ T1
  ihave X2 := (join_X2 c) $$ [X2a X2b]
  · isplitl [X2a] <;> iassumption
  ihave T0 := (cut_T0 c) $$ T0
  icases T0 with ⟨T0a, T0b⟩
  unfold afterwards idles zeros roomX roomB roomC roomT
  isplitl [RX]; · iexact RX
  isplitl [RW]; · iexact RW
  isplitl [i1 i2 i3 i4]
  · isplitl [i1]; · iexact i1
    isplitl [i2]; · iexact i2
    isplitl [i3]; · iexact i3
    iexact i4
  isplitl [hs0 hs1 hs2 hs3 hs4 zr0 zr1 zr2 zr3 zr4]
  · isplitl [hs0]; · iexact hs0
    isplitl [hs1]; · iexact hs1
    isplitl [hs2]; · iexact hs2
    isplitl [hs3]; · iexact hs3
    isplitl [hs4]; · iexact hs4
    isplitl [zr0]; · iexact zr0
    isplitl [zr1]; · iexact zr1
    isplitl [zr2]; · iexact zr2
    isplitl [zr3]; · iexact zr3
    iexact zr4
  isplitl [zb]; · iexact zb
  isplitl [HO]; · iexact HO
  isplitl [X0a X0b X1 X2 X3]
  · isplitl [X0a]; · iexact X0a
    isplitl [X0b]; · iexact X0b
    isplitl [X1]; · iexact X1
    isplitl [X2]; · iexact X2
    iexact X3
  isplitl [B0 B1 B2 B3]
  · isplitl [B0]; · iexact B0
    isplitl [B1]; · iexact B1
    isplitl [B2]; · iexact B2
    iexact B3
  isplitl [C0a C0b C1 C2a C2b]
  · isplitl [C0a]; · iexact C0a
    isplitl [C0b]; · iexact C0b
    isplitl [C1]; · iexact C1
    isplitl [C2a]; · iexact C2a
    iexact C2b
  isplitl [T0a T0b T1]
  · isplitl [T0a]; · iexact T0a
    isplitl [T0b]; · iexact T0b
    iexact T1
  isplitl [ws]; · iexact ws
  iexact oo

end Cert.Own

end
-- ==== Proof.Deal.lean ====
/-
  The start of the run: the shared cells set up, each duty dealt to the device that pays it, each device's credits.
-/
module

public import proofs.«01_k».proof.Proof.Whole
public import Idealize.ShloMosaic.Lib.Pipeline.CollectiveSegs
public import Idealize.ShloMosaic.Lib.Quiescent

@[expose] public section

noncomputable section

namespace Cert.Own

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores -/

/-- The kernel's own copy semaphores: every one but the first, which is the output's. -/
def osem : Fin 14 → SemLoc sig := fun i => .dma (i.succ : Fin 15)

theorem ownSemFacts : Pipeline.OwnSemFacts cfg0.spec osem := by decide

/-- The shared cells listed. -/
abbrev cels : List Cel :=
  [bar, snd 0, snd 1, snd 2, snd 3, snd 4, rcv 0, rcv 1, rcv 2, rcv 3, rcv 4]

theorem over_cels (Φ : Cel → sProp 𝕄) : bigSep Finset.univ Φ
    = iprop(Φ bar ∗ Φ (snd 0) ∗ Φ (snd 1) ∗ Φ (snd 2) ∗ Φ (snd 3) ∗ Φ (snd 4)
      ∗ Φ (rcv 0) ∗ Φ (rcv 1) ∗ Φ (rcv 2) ∗ Φ (rcv 3) ∗ Φ (rcv 4)) :=
  bigSep_univ_eq_bigSepL cels (by decide) (by decide) Φ

theorem own_sems (c : Dev nD) :
    (Pipeline.ownSems0 (Ix := Unit) (Name := ℕ) (U := UU) (Lvl := ℕ) (Val := Elt F) (τ := τ) osem c : sProp 𝕄)
      = iprop(idle c 1 ∗ idle c 2 ∗ idle c 3 ∗ idle c 4 ∗ zero c (snd 0) ∗ zero c (snd 1) ∗ zero c (snd 2) ∗ zero c (snd 3) ∗ zero c (snd 4)
        ∗ zero c (rcv 0) ∗ zero c (rcv 1) ∗ zero c (rcv 2) ∗ zero c (rcv 3) ∗ zero c (rcv 4)) := by
  rw [Pipeline.ownSems0_eq_of_list c osem [0, 1, 2, 3, 4, 5, 6, 7, 8, 9, 10, 11, 12, 13] (by decide) (by decide)]; rfl

theorem free_sems (c : Dev nD) : (unscopedSems0 c : sProp 𝕄) = zero c bar := by
  unfold unscopedSems0; rw [bigSep_eq_bigSepL_of_eq [SemLoc.reg barS] (by decide) (by decide)]; rfl

/-- Apart from the fetch semaphores, each shared cell is at zero. -/
theorem sems_sorted (c : Dev nD) :
    iprop(Pipeline.ownSems0 (Ix := Unit) (Name := ℕ) (U := UU) (Lvl := ℕ) (Val := Elt F) (τ := τ) osem c ∗ unscopedSems0 c)
      ⊢ (iprop(idles c ∗ bigSep Finset.univ fun k : Cel => zero c k) : sProp 𝕄) := by
  rw [own_sems, free_sems, over_cels]; unfold idles
  iintro ⟨⟨i1, i2, i3, i4, H⟩, HB⟩
  isplitl [i1 i2 i3 i4]
  · isplitl [i1]; · iexact i1
    isplitl [i2]; · iexact i2
    isplitl [i3] <;> iassumption
  isplitl [HB]; · iexact HB
  iexact H

theorem sems_returned (c : Dev nD) :
    iprop(idles c ∗ zeros c) ⊢ (Pipeline.ownSems0 (Ix := Unit) (Name := ℕ) (U := UU) (Lvl := ℕ) (Val := Elt F) (τ := τ) osem c : sProp 𝕄) := by
  rw [own_sems]; unfold idles zeros
  iintro ⟨⟨i1, i2, i3, i4⟩, H⟩
  isplitl [i1]; · iexact i1
  isplitl [i2]; · iexact i2
  isplitl [i3]; · iexact i3
  isplitl [i4] <;> iassumption

/-! ## The cells and the duties, over the devices -/

theorem kcell_injective : Function.Injective kcell := fun ⟨c, k⟩ ⟨c', k'⟩ h => by
  have h₁ : c = c' := congrArg (fun g : GSem nD τ sig => g.1.1) h
  have h₂ : k = k' := csem_inj (congrArg Prod.snd h)
  rw [h₁, h₂]

def allCells : Finset (GSem nD τ sig) := Finset.univ.map ⟨kcell, kcell_injective⟩

/-- Which duties a device's cells have: the barrier's three, one for each other cell. -/
abbrev Duty : Type := Fin 3 ⊕ (Bool × Fin 5)

def dutyOf (x : Dev nD × Duty) : GSem nD τ sig × ℕ × Fin 3 := match x.2 with
  | .inl t => (kcell (x.1, bar), 0, t)
  | .inr k => (kcell (x.1, some k), 0, 0)

theorem dutyOf_injective : Function.Injective dutyOf := by
  rintro ⟨c, d⟩ ⟨c', d'⟩ h
  have key : ∀ {k k' : Cel}, kcell (c, k) = kcell (c', k') → c = c' ∧ k = k' := fun h => Prod.ext_iff.mp (kcell_injective h)
  rcases d with t | k <;> rcases d' with t' | k'
  · have h₁ := key (congrArg Prod.fst h)
    have h₂ : t = t' := congrArg (fun y => y.2.2) h
    rw [h₁.1, h₂]
  · exact absurd (key (congrArg Prod.fst h)).2 (by simp)
  · exact absurd (key (congrArg Prod.fst h)).2 (by simp)
  · have h₁ := key (congrArg Prod.fst h)
    rw [h₁.1, Option.some.inj h₁.2]

def allDuties : Finset (GSem nD τ sig × ℕ × Fin 3) := Finset.univ.map ⟨dutyOf, dutyOf_injective⟩

/-- The duties of device `c`'s own cells. -/
def minted (c : Dev nD) : sProp 𝕄 :=
  iprop(tok c bar 0 ∗ tok c bar 1 ∗ tok c bar 2
    ∗ tok c (snd 0) 0 ∗ tok c (snd 1) 0 ∗ tok c (snd 2) 0 ∗ tok c (snd 3) 0 ∗ tok c (snd 4) 0
    ∗ tok c (rcv 0) 0 ∗ tok c (rcv 1) 0 ∗ tok c (rcv 2) 0 ∗ tok c (rcv 3) 0 ∗ tok c (rcv 4) 0)

theorem over_duties (Φ : Duty → sProp 𝕄) : bigSep Finset.univ Φ
    = iprop(Φ (.inl 0) ∗ Φ (.inl 1) ∗ Φ (.inl 2)
      ∗ Φ (.inr (false, 0)) ∗ Φ (.inr (false, 1)) ∗ Φ (.inr (false, 2)) ∗ Φ (.inr (false, 3)) ∗ Φ (.inr (false, 4))
      ∗ Φ (.inr (true, 0)) ∗ Φ (.inr (true, 1)) ∗ Φ (.inr (true, 2)) ∗ Φ (.inr (true, 3)) ∗ Φ (.inr (true, 4))) :=
  bigSep_univ_eq_bigSepL ([.inl 0, .inl 1, .inl 2, .inr (false, 0), .inr (false, 1), .inr (false, 2), .inr (false, 3), .inr (false, 4),
    .inr (true, 0), .inr (true, 1), .inr (true, 2), .inr (true, 3), .inr (true, 4) ] : List Duty) (by decide) (by decide) Φ

/-! ## What the launch makes -/

def u₀ : UU :=
  (initOf (Pipeline.cells cfgs cellOf_inj) (Pipeline.launchToks cfgs cellOf_inj), initOf allCells allDuties, 1)

/-- Device `c`'s part, before the cells' invariants are made. -/
def G (c : Dev nD) : sProp 𝕄 :=
  iprop((bigSep Finset.univ fun k : Cel => roundState ER (rd m) (kcell (c, k)) 0)
    ∗ (bigSep Finset.univ fun k : Cel => here c k) ∗ (bigSep Finset.univ fun k : Cel => reached ER (kcell (c, k)) 0) ∗ minted c)

theorem over_cells (Φ : GSem nD τ sig → sProp 𝕄) :
    bigSep allCells Φ = bigSep Finset.univ fun c : Dev nD => bigSep Finset.univ fun k : Cel => Φ (kcell (c, k)) := by
  unfold allCells; rw [bigSep_map, bigSep_univ_prod]; rfl

theorem over_allDuties :
    bigSep allDuties (fun x => (dutyTok ER x.1 x.2.1 x.2.2 : sProp 𝕄)) = bigSep Finset.univ fun c : Dev nD => minted c := by
  unfold allDuties; rw [bigSep_map, bigSep_univ_prod]
  exact bigSep_congr fun c _ => by unfold minted; rw [over_duties]; rfl

theorem deal : BI.own (ER (initOf allCells allDuties)) ⊢ (|==> bigSep Finset.univ (G m) : sProp 𝕄) := by
  iintro H
  imod (Rounds.fund ER (rd m) allCells allDuties) $$ H with ⟨H1, H2, H3, H4⟩
  imodintro
  ihave H1 := (Entails.of_eq (over_cells fun g => roundState ER (rd m) g 0)) $$ H1
  ihave H2 := (Entails.of_eq (over_cells fun g => reached ER g 0)) $$ H2
  ihave H3 := (Entails.of_eq (over_cells fun g => atPos ER g 0 ∅ 0)) $$ H3
  ihave H4 := (Entails.of_eq (over_allDuties (F := F))) $$ H4
  unfold G; simp only [bigSep_sep']
  isplitl [H1]; · iexact H1
  isplitl [H3]; · iexact H3
  isplitl [H2] <;> iassumption

theorem fund : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro H
  ihave H := (ownU_pair _ _) $$ H
  icases H with ⟨HP, HX⟩
  ihave HX := (own_pair_emb EQ _ _) $$ HX
  icases HX with ⟨HX, -⟩
  imod (deal m) $$ HX with HG
  imodintro
  isplitl [HP] <;> iassumption

/-! ## The invariants made -/

theorem make_invs (c : Dev nD) :
    iprop((bigSep Finset.univ fun k : Cel => zero c k) ∗ bigSep Finset.univ fun k : Cel => roundState ER (rd m) (kcell (c, k)) 0)
      ⊢ (|={Set.univ}=> bigSep Finset.univ fun k : Cel => iprop(∃ κ : ℕ, cellInv ER (rd m) κ (kcell (c, k))) : sProp 𝕄) := by
  rw [← bigSep_sep']
  exact (bigSep_mono fun k _ => (Rounds.body_intro ER (rd m) (kcell (c, k))).trans inv_alloc).trans (bigSep_fupd _ _)

/-- Device `c`'s part with its cells' invariants. -/
def made (c : Dev nD) : sProp 𝕄 :=
  iprop((bigSep Finset.univ fun k : Cel => iprop(∃ κ : ℕ, cellInv ER (rd m) κ (kcell (c, k))))
    ∗ (bigSep Finset.univ fun k : Cel => reached ER (kcell (c, k)) 0) ∗ places c ∗ minted c ∗ idles c)

theorem make (c : Dev nD) :
    iprop(Pipeline.ownSems0 (Ix := Unit) (Name := ℕ) (U := UU) (Lvl := ℕ) (Val := Elt F) (τ := τ) osem c ∗ unscopedSems0 c ∗ G m c)
      ⊢ |={Set.univ}=> made m c := by
  unfold G made places
  rw [over_cels (fun k => here c k)]
  iintro ⟨Ho, Hu, Hst, Hat, Hr, Ht⟩
  ihave Hs := (sems_sorted (F := F) c) $$ [Ho Hu]
  · isplitl [Ho] <;> iassumption
  icases Hs with ⟨Hi, Hz⟩
  imod (make_invs m c) $$ [Hz Hst] with Hinv
  · isplitl [Hz] <;> iassumption
  imodintro
  isplitl [Hinv]; · iexact Hinv
  isplitl [Hr]; · iexact Hr
  isplitl [Hat]; · iexact Hat
  isplitl [Ht] <;> iassumption

/-! ## The duties dealt round -/

def turn1 : Dev nD ≃ Dev nD := ⟨rot 1, rot 3, rot_rot31, rot_rot13⟩
def turn2 : Dev nD ≃ Dev nD := ⟨rot 2, rot 2, rot_rot22, rot_rot22⟩
def turn3 : Dev nD ≃ Dev nD := ⟨rot 3, rot 1, rot_rot13, rot_rot31⟩

theorem dealt : (bigSep Finset.univ fun c : Dev nD => (minted c : sProp 𝕄)) ⊢ bigSep Finset.univ fun c : Dev nD => toks c := by
  unfold minted toks
  simp only [bigSep_sep']
  iintro ⟨b0, b1, b2, s0, s1, s2, s3, s4, r0, r1, r2, r3, r4⟩
  isplitl [b2]; · iapply (Entails.of_eq (bigSep_univ_equiv turn1 fun c : Dev nD => (tok c bar 2 : sProp 𝕄))); iexact b2
  isplitl [b1]; · iapply (Entails.of_eq (bigSep_univ_equiv turn2 fun c : Dev nD => (tok c bar 1 : sProp 𝕄))); iexact b1
  isplitl [b0]; · iapply (Entails.of_eq (bigSep_univ_equiv turn3 fun c : Dev nD => (tok c bar 0 : sProp 𝕄))); iexact b0
  isplitl [s0]; · iexact s0
  isplitl [s1]; · iexact s1
  isplitl [s2]; · iexact s2
  isplitl [s3]; · iexact s3
  isplitl [s4]; · iexact s4
  isplitl [r0]; · iapply (Entails.of_eq (bigSep_univ_equiv turn1 fun c : Dev nD => (tok c (rcv 0) 0 : sProp 𝕄))); iexact r0
  isplitl [r1]; · iapply (Entails.of_eq (bigSep_univ_equiv turn1 fun c : Dev nD => (tok c (rcv 1) 0 : sProp 𝕄))); iexact r1
  isplitl [r2]; · iapply (Entails.of_eq (bigSep_univ_equiv turn2 fun c : Dev nD => (tok c (rcv 2) 0 : sProp 𝕄))); iexact r2
  isplitl [r3]; · iapply (Entails.of_eq (bigSep_univ_equiv turn3 fun c : Dev nD => (tok c (rcv 3) 0 : sProp 𝕄))); iexact r3
  iapply (Entails.of_eq (bigSep_univ_equiv turn3 fun c : Dev nD => (tok c (rcv 4) 0 : sProp 𝕄))); iexact r4

/-- Every cell's invariant and mark. -/
def marks (K : Dev nD × Cel → ℕ) : sProp 𝕄 :=
  iprop((bigSep Finset.univ fun ck : Dev nD × Cel => cellInv ER (rd m) (K ck) (kcell ck)) ∗ bigSep Finset.univ fun ck : Dev nD × Cel => reached ER (kcell ck) 0)

instance marks_persistent (K : Dev nD × Cel → ℕ) : BI.Persistent (marks (F := F) m K) := by unfold marks; infer_instance

theorem marks_know (K : Dev nD × Cel → ℕ) : iprop(marks (F := F) m K ∗ levAts L lv) ⊢ know m K := by
  unfold marks know
  iintro ⟨⟨#H1, #H2⟩, #H3⟩
  isplitr
  · iintro %ck
    iapply (show (bigSep Finset.univ fun ck : Dev nD × Cel => (cellInv ER (rd m) (K ck) (kcell ck) : sProp 𝕄)) ⊢ cellInv ER (rd m) (K ck) (kcell ck)
      from bigSep_elim (Finset.mem_univ ck)); iexact H1
  isplitr
  · iintro %ck
    iapply (show (bigSep Finset.univ fun ck : Dev nD × Cel => (reached ER (kcell ck) 0 : sProp 𝕄)) ⊢ reached ER (kcell ck) 0
      from bigSep_elim (Finset.mem_univ ck)); iexact H2
  iexact H3

/-- Device `c`'s part as its body takes it. -/
def G' (c : Dev nD) : sProp 𝕄 := iprop((∃ K, marks m K) ∗ places c ∗ toks c ∗ idles c)

theorem spread {R : sProp 𝕄} [BI.Persistent R] {Φ Ψ : Dev nD → sProp (MT nD τ sig Unit (Elt F) ℕ UU ℕ)} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup : (bigSep Finset.univ fun c : Dev nD => made m c) ⊢ (bigSep Finset.univ (G' m) : sProp 𝕄) := by
  unfold made
  simp only [bigSep_sep']
  rw [← bigSep_univ_prod (fun ck : Dev nD × Cel => (iprop(∃ κ : ℕ, cellInv ER (rd m) κ (kcell ck)) : sProp 𝕄)),
    ← bigSep_univ_prod (fun ck : Dev nD × Cel => (reached ER (kcell ck) 0 : sProp 𝕄))]
  iintro ⟨HI, #HR, Hp, Ht, Hi⟩
  ihave HK := (BI.bigSep_exists_pi Finset.univ (fun (ck : Dev nD × Cel) (κ : ℕ) => (cellInv ER (rd m) κ (kcell ck) : sProp 𝕄))) $$ HI
  icases HK with ⟨%K, #HI⟩
  ihave Ht := (dealt (F := F)) $$ Ht
  iapply (spread (R := marks m K) (Φ := fun c => iprop(places c ∗ toks c ∗ idles c)) (Ψ := G' m) fun c => by
    unfold G'; iintro ⟨H, H'⟩
    isplitl [H]; · iexists K; iexact H
    iexact H')
  isplitr
  · unfold marks; isplitl; · iexact HI
    iexact HR
  simp only [bigSep_sep']
  isplitl [Hp]; · iexact Hp
  isplitl [Ht] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => make m c).trans (bigSep_fupd _ _)).trans (BI.fupd_mono (regroup m))

/-! ## The credits -/

theorem tally_at (c d : Dev nD) (k k' : Cel) (N : ℕ) :
    (tallyAt (kcell (d, k')) () N : CellTallies nD τ sig Unit) (kcell (c, k)) () = if k = k' ∧ c = d then N else 0 := by
  rw [tallyAt_apply]
  exact if_congr ⟨fun h => ⟨congrArg Prod.snd (kcell_injective h.1), congrArg Prod.fst (kcell_injective h.1)⟩, fun ⟨h, h'⟩ => ⟨by rw [h, h'], rfl⟩⟩ rfl rfl

theorem once1 (c : Dev nD) (N : ℕ) : (∑ d : Dev nD, if c = rot 1 d then N else 0) = N := by
  rw [Finset.sum_eq_single (rot 3 c) (fun d _ h => if_neg fun e => h (by rw [e, rot_rot31])) fun h => absurd (Finset.mem_univ _) h, if_pos (rot_rot13 c).symm]
theorem once2 (c : Dev nD) (N : ℕ) : (∑ d : Dev nD, if c = rot 2 d then N else 0) = N := by
  rw [Finset.sum_eq_single (rot 2 c) (fun d _ h => if_neg fun e => h (by rw [e, rot_rot22])) fun h => absurd (Finset.mem_univ _) h, if_pos (rot_rot22 c).symm]
theorem once3 (c : Dev nD) (N : ℕ) : (∑ d : Dev nD, if c = rot 3 d then N else 0) = N := by
  rw [Finset.sum_eq_single (rot 1 c) (fun d _ h => if_neg fun e => h (by rw [e, rot_rot13])) fun h => absurd (Finset.mem_univ _) h, if_pos (rot_rot31 c).symm]

/-- What the devices together owe a shared cell. -/
def total : Cel → ℕ
  | none => 3
  | some (true, n) => cr n
  | some (false, _) => 0

theorem owed_total (c : Dev nD) (k : Cel) : (∑ d : Dev nD, O₀ d (kcell (c, k)) ()) = total k := by
  simp only [O₀, Pi.add_apply, Finsupp.add_apply, tally_at, Pi.zero_apply, Finsupp.zero_apply, far, Finset.sum_add_distrib]
  rcases k with _ | ⟨_ | _, n⟩
  · simp [once1, once2, once3, total, -Finset.sum_boole]
  · simp [total]
  · fin_cases n <;> simp [once1, once2, once3, total]

theorem credit_at (c : Dev nD) (k : Cel) :
    tallyOn (kcell (c, k)) (launchCredit (Pipeline.owing O₀) 0 (kcell (c, k))) = (tallyAt (kcell (c, k)) () (total k) : CellTallies nD τ sig Unit) := by
  unfold tallyAt; refine congrArg _ (Finsupp.ext fun u => ?_); cases u
  rw [Pipeline.launchCredit_owing, Finsupp.single_eq_same, owed_total]

theorem credits (c : Dev nD) : (Pipeline.launchCred O₀ c : sProp 𝕄) ⊢ dues c := by
  unfold Pipeline.launchCred dues
  refine (bigSep_subset (Finset.subset_univ (Finset.univ.map ⟨csem, fun _ _ => csem_inj⟩))).trans ?_
  rw [bigSep_map]
  refine (Entails.of_eq (bigSep_congr fun k _ => ?_ : _ = bigSep Finset.univ fun k : Cel => (cred (tallyAt (kcell (c, k)) () (total k)) : sProp 𝕄))).trans ?_
  · exact congrArg cred (credit_at c k)
  rw [over_cels]
  iintro ⟨H, -, -, -, -, -, H'⟩
  isplitl [H]; · iexact H
  iexact H'

end Cert.Own

end
-- ==== Proof.Rooms.lean ====
/-
  The kernel's scratch buffers, whole and in the parts the body works on.
-/
module

public import proofs.«01_k».proof.Proof.Deal

@[expose] public section

noncomputable section

namespace Cert.Own

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The scratch buffers whole and in their parts -/

section Rooms
variable (c : Dev nD)

theorem apart3 {s : Shape} (r : Fin 3 → Rect s) (h01 : Disjoint (r 0).set (r 1).set) (h02 : Disjoint (r 0).set (r 2).set) (h12 : Disjoint (r 1).set (r 2).set) :
    ∀ t t', t ≠ t' → Disjoint (r t).set (r t').set := by
  have key : ∀ t t', t < t' → Disjoint (r t).set (r t').set := fun t t' h => by
    fin_cases t <;> fin_cases t' <;> first | exact absurd h (by decide) | assumption
  exact fun t t' hne => (lt_or_gt_of_ne hne).elim (key t t') fun h' => (key t' t h').symm
theorem apart4 {s : Shape} (r : Fin 4 → Rect s) (h01 : Disjoint (r 0).set (r 1).set) (h02 : Disjoint (r 0).set (r 2).set) (h03 : Disjoint (r 0).set (r 3).set) (h12 : Disjoint (r 1).set (r 2).set) (h13 : Disjoint (r 1).set (r 3).set) (h23 : Disjoint (r 2).set (r 3).set) :
    ∀ t t', t ≠ t' → Disjoint (r t).set (r t').set := by
  have key : ∀ t t', t < t' → Disjoint (r t).set (r t').set := fun t t' h => by
    fin_cases t <;> fin_cases t' <;> first | exact absurd h (by decide) | assumption
  exact fun t t' hne => (lt_or_gt_of_ne hne).elim (key t t') fun h' => (key t' t h').symm
theorem apart5 {s : Shape} (r : Fin 5 → Rect s) (h01 : Disjoint (r 0).set (r 1).set) (h02 : Disjoint (r 0).set (r 2).set) (h03 : Disjoint (r 0).set (r 3).set) (h04 : Disjoint (r 0).set (r 4).set) (h12 : Disjoint (r 1).set (r 2).set) (h13 : Disjoint (r 1).set (r 3).set) (h14 : Disjoint (r 1).set (r 4).set) (h23 : Disjoint (r 2).set (r 3).set) (h24 : Disjoint (r 2).set (r 4).set) (h34 : Disjoint (r 3).set (r 4).set) :
    ∀ t t', t ≠ t' → Disjoint (r t).set (r t').set := by
  have key : ∀ t t', t < t' → Disjoint (r t).set (r t').set := fun t t' h => by
    fin_cases t <;> fin_cases t' <;> first | exact absurd h (by decide) | assumption
  exact fun t t' hne => (lt_or_gt_of_ne hne).elim (key t t') fun h' => (key t' t h').symm

def partsX : Fin 5 → Rect S4x1024x1024 := ![rX0a, rX0b, rX1, rX2, rX3]
def partsB : Fin 4 → Rect S4x1024x2048 := ![rB0, rB1, rB2, rB3]
def partsC : Fin 5 → Rect S3x1024x1024 := ![rC0a, rC0b, rC1, rC2a, rC2b]
def partsT : Fin 3 → Rect S2x1024x1024 := ![rT0a, rT0b, rT1]

theorem partsX_step (t : Fin 5) (a : Fin 3) : (partsX t).stride a = 1 := by fin_cases t <;> rfl
theorem partsB_step (t : Fin 4) (a : Fin 3) : (partsB t).stride a = 1 := by fin_cases t <;> rfl
theorem partsC_step (t : Fin 5) (a : Fin 3) : (partsC t).stride a = 1 := by fin_cases t <;> rfl
theorem partsT_step (t : Fin 3) (a : Fin 3) : (partsT t).stride a = 1 := by fin_cases t <;> rfl

theorem partsX_apart : ∀ t t', t ≠ t' → Disjoint (partsX t).set (partsX t').set := by
  have d01 : Disjoint rX0a.set rX0b.set := unit_disjoint 1 (by decide)
  have d02 : Disjoint rX0a.set rX1.set := unit_disjoint 0 (by decide)
  have d03 : Disjoint rX0a.set rX2.set := unit_disjoint 0 (by decide)
  have d04 : Disjoint rX0a.set rX3.set := unit_disjoint 0 (by decide)
  have d12 : Disjoint rX0b.set rX1.set := unit_disjoint 0 (by decide)
  have d13 : Disjoint rX0b.set rX2.set := unit_disjoint 0 (by decide)
  have d14 : Disjoint rX0b.set rX3.set := unit_disjoint 0 (by decide)
  have d23 : Disjoint rX1.set rX2.set := unit_disjoint 0 (by decide)
  have d24 : Disjoint rX1.set rX3.set := unit_disjoint 0 (by decide)
  have d34 : Disjoint rX2.set rX3.set := unit_disjoint 0 (by decide)
  exact apart5 partsX d01 d02 d03 d04 d12 d13 d14 d23 d24 d34

theorem partsB_apart : ∀ t t', t ≠ t' → Disjoint (partsB t).set (partsB t').set := by
  have d01 : Disjoint rB0.set rB1.set := unit_disjoint 0 (by decide)
  have d02 : Disjoint rB0.set rB2.set := unit_disjoint 0 (by decide)
  have d03 : Disjoint rB0.set rB3.set := unit_disjoint 0 (by decide)
  have d12 : Disjoint rB1.set rB2.set := unit_disjoint 0 (by decide)
  have d13 : Disjoint rB1.set rB3.set := unit_disjoint 0 (by decide)
  have d23 : Disjoint rB2.set rB3.set := unit_disjoint 0 (by decide)
  exact apart4 partsB d01 d02 d03 d12 d13 d23

theorem partsC_apart : ∀ t t', t ≠ t' → Disjoint (partsC t).set (partsC t').set := by
  have d01 : Disjoint rC0a.set rC0b.set := unit_disjoint 1 (by decide)
  have d02 : Disjoint rC0a.set rC1.set := unit_disjoint 0 (by decide)
  have d03 : Disjoint rC0a.set rC2a.set := unit_disjoint 0 (by decide)
  have d04 : Disjoint rC0a.set rC2b.set := unit_disjoint 0 (by decide)
  have d12 : Disjoint rC0b.set rC1.set := unit_disjoint 0 (by decide)
  have d13 : Disjoint rC0b.set rC2a.set := unit_disjoint 0 (by decide)
  have d14 : Disjoint rC0b.set rC2b.set := unit_disjoint 0 (by decide)
  have d23 : Disjoint rC1.set rC2a.set := unit_disjoint 0 (by decide)
  have d24 : Disjoint rC1.set rC2b.set := unit_disjoint 0 (by decide)
  have d34 : Disjoint rC2a.set rC2b.set := unit_disjoint 1 (by decide)
  exact apart5 partsC d01 d02 d03 d04 d12 d13 d14 d23 d24 d34

theorem partsT_apart : ∀ t t', t ≠ t' → Disjoint (partsT t).set (partsT t').set := by
  have d01 : Disjoint rT0a.set rT0b.set := unit_disjoint 1 (by decide)
  have d02 : Disjoint rT0a.set rT1.set := unit_disjoint 0 (by decide)
  have d12 : Disjoint rT0b.set rT1.set := unit_disjoint 0 (by decide)
  exact apart3 partsT d01 d02 d12

theorem partsX_all (x : S4x1024x1024.Idx) : ∃ t, x ∈ (partsX t).set := by
  have h0 : (x 0).val < 4 := (x 0).isLt
  have h1 : (x 1).val < 1024 := (x 1).isLt
  have h2 : (x 2).val < 1024 := (x 2).isLt
  by_cases e0 : (x 0).val = 0
  · by_cases e1 : (x 1).val < 512
    · exact ⟨0, show x ∈ rX0a.set from Rect.mem_set_unit.mpr (by simp [Fin.forall_fin_succ, S1x512x1024]; omega)⟩
    · exact ⟨1, show x ∈ rX0b.set from Rect.mem_set_unit.mpr (by simp [Fin.forall_fin_succ, S1x512x1024]; omega)⟩
  by_cases e1 : (x 0).val = 1
  · exact ⟨2, show x ∈ rX1.set from Rect.mem_set_unit.mpr (by simp [Fin.forall_fin_succ, S1x1024x1024]; omega)⟩
  by_cases e2 : (x 0).val = 2
  · exact ⟨3, show x ∈ rX2.set from Rect.mem_set_unit.mpr (by simp [Fin.forall_fin_succ, S1x1024x1024]; omega)⟩
  · exact ⟨4, show x ∈ rX3.set from Rect.mem_set_unit.mpr (by simp [Fin.forall_fin_succ, S1x1024x1024]; omega)⟩

theorem partsB_all (x : S4x1024x2048.Idx) : ∃ t, x ∈ (partsB t).set := by
  have h0 : (x 0).val < 4 := (x 0).isLt
  have h1 : (x 1).val < 1024 := (x 1).isLt
  have h2 : (x 2).val < 2048 := (x 2).isLt
  by_cases e0 : (x 0).val = 0
  · exact ⟨0, show x ∈ rB0.set from Rect.mem_set_unit.mpr (by simp [Fin.forall_fin_succ, S1x1024x2048]; omega)⟩
  by_cases e1 : (x 0).val = 1
  · exact ⟨1, show x ∈ rB1.set from Rect.mem_set_unit.mpr (by simp [Fin.forall_fin_succ, S1x1024x2048]; omega)⟩
  by_cases e2 : (x 0).val = 2
  · exact ⟨2, show x ∈ rB2.set from Rect.mem_set_unit.mpr (by simp [Fin.forall_fin_succ, S1x1024x2048]; omega)⟩
  · exact ⟨3, show x ∈ rB3.set from Rect.mem_set_unit.mpr (by simp [Fin.forall_fin_succ, S1x1024x2048]; omega)⟩

theorem partsC_all (x : S3x1024x1024.Idx) : ∃ t, x ∈ (partsC t).set := by
  have h0 : (x 0).val < 3 := (x 0).isLt
  have h1 : (x 1).val < 1024 := (x 1).isLt
  have h2 : (x 2).val < 1024 := (x 2).isLt
  by_cases e0 : (x 0).val = 0
  · by_cases e1 : (x 1).val < 512
    · exact ⟨0, show x ∈ rC0a.set from Rect.mem_set_unit.mpr (by simp [Fin.forall_fin_succ, S1x512x1024]; omega)⟩
    · exact ⟨1, show x ∈ rC0b.set from Rect.mem_set_unit.mpr (by simp [Fin.forall_fin_succ, S1x512x1024]; omega)⟩
  by_cases e1 : (x 0).val = 1
  · exact ⟨2, show x ∈ rC1.set from Rect.mem_set_unit.mpr (by simp [Fin.forall_fin_succ, S1x1024x1024]; omega)⟩
  by_cases e2 : (x 1).val < 512
  · exact ⟨3, show x ∈ rC2a.set from Rect.mem_set_unit.mpr (by simp [Fin.forall_fin_succ, S1x512x1024]; omega)⟩
  · exact ⟨4, show x ∈ rC2b.set from Rect.mem_set_unit.mpr (by simp [Fin.forall_fin_succ, S1x512x1024]; omega)⟩

theorem partsT_all (x : S2x1024x1024.Idx) : ∃ t, x ∈ (partsT t).set := by
  have h0 : (x 0).val < 2 := (x 0).isLt
  have h1 : (x 1).val < 1024 := (x 1).isLt
  have h2 : (x 2).val < 1024 := (x 2).isLt
  by_cases e0 : (x 0).val = 0
  · by_cases e1 : (x 1).val < 512
    · exact ⟨0, show x ∈ rT0a.set from Rect.mem_set_unit.mpr (by simp [Fin.forall_fin_succ, S1x512x1024]; omega)⟩
    · exact ⟨1, show x ∈ rT0b.set from Rect.mem_set_unit.mpr (by simp [Fin.forall_fin_succ, S1x512x1024]; omega)⟩
  · exact ⟨2, show x ∈ rT1.set from Rect.mem_set_unit.mpr (by simp [Fin.forall_fin_succ, S1x1024x1024]; omega)⟩

/-- A whole buffer at any contents. -/
def full (b : Ref sig .tc) : sProp 𝕄 := iprop(∃ f : Buf (Elt F) ((c : Thread nD τ).loc b), ((c : Thread nD τ).loc b) ↦{fullShare} f)

theorem whole_pts (b : Ref sig .tc) (f : Buf (Elt F) ((c : Thread nD τ).loc b)) :
    (((c : Thread nD τ).loc b) ↦{fullShare} f : sProp 𝕄) = ((Memref.whole b).view.loc (c : Thread nD τ) ↦[(Memref.whole b).view.set]{fullShare} f) := by
  simp only [Memref.view_whole, View.set_whole]

theorem full_parts {n : ℕ} (b : Ref sig .tc) (r : Fin n → Rect b.ty.shape) (hr : ∀ t a, (r t).stride a = 1)
    (hd : ∀ t t', t ≠ t' → Disjoint (r t).set (r t').set) (hc : ∀ x, ∃ t, x ∈ (r t).set) :
    (full c b : sProp 𝕄) ⊢ bigSep Finset.univ fun t => any c ((Memref.whole b).slice (r t) (hr t)) := by
  unfold full
  iintro ⟨%f, H⟩
  ihave H := (Entails.of_eq (whole_pts c b f)) $$ H
  iapply (split_parts (c : Thread nD τ) (Memref.whole b) r hr hd hc f); iexact H

theorem parts_full {n : ℕ} (b : Ref sig .tc) (r : Fin n → Rect b.ty.shape) (hr : ∀ t a, (r t).stride a = 1)
    (hd : ∀ t t', t ≠ t' → Disjoint (r t).set (r t').set) (hc : ∀ x, ∃ t, x ∈ (r t).set) :
    (bigSep Finset.univ fun t => any c ((Memref.whole b).slice (r t) (hr t)) : sProp 𝕄) ⊢ full c b := by
  refine (glue_parts (c : Thread nD τ) (Memref.whole b) r hr hd hc).trans ?_
  unfold full
  iintro ⟨%f, H⟩
  iexists f
  ihave H := (Entails.of_eq (whole_pts c b f).symm) $$ H
  iexact H

theorem open_X : (full c cc0_scratch0 : sProp 𝕄) ⊢ roomX c :=
  (full_parts c cc0_scratch0 partsX partsX_step partsX_apart partsX_all).trans
    (Entails.of_eq (bigSep_univ_eq_bigSepL ([0, 1, 2, 3, 4] : List (Fin 5)) (by decide) (by decide) _))
theorem open_B : (full c cc0_scratch1 : sProp 𝕄) ⊢ roomB c :=
  (full_parts c cc0_scratch1 partsB partsB_step partsB_apart partsB_all).trans
    (Entails.of_eq (bigSep_univ_eq_bigSepL ([0, 1, 2, 3] : List (Fin 4)) (by decide) (by decide) _))
theorem open_C : (full c cc0_scratch2 : sProp 𝕄) ⊢ roomC c :=
  (full_parts c cc0_scratch2 partsC partsC_step partsC_apart partsC_all).trans
    (Entails.of_eq (bigSep_univ_eq_bigSepL ([0, 1, 2, 3, 4] : List (Fin 5)) (by decide) (by decide) _))
theorem open_T : (full c cc0_scratch3 : sProp 𝕄) ⊢ roomT c :=
  (full_parts c cc0_scratch3 partsT partsT_step partsT_apart partsT_all).trans
    (Entails.of_eq (bigSep_univ_eq_bigSepL ([0, 1, 2] : List (Fin 3)) (by decide) (by decide) _))

theorem shut_X : (roomX c : sProp 𝕄) ⊢ full c cc0_scratch0 :=
  BI.Entails.trans (Entails.of_eq (bigSep_univ_eq_bigSepL ([0, 1, 2, 3, 4] : List (Fin 5)) (by decide) (by decide)
    (fun t => any c (xbM.slice (partsX t) (partsX_step t)))).symm) (parts_full c cc0_scratch0 partsX partsX_step partsX_apart partsX_all)
theorem shut_B : (roomB c : sProp 𝕄) ⊢ full c cc0_scratch1 :=
  BI.Entails.trans (Entails.of_eq (bigSep_univ_eq_bigSepL ([0, 1, 2, 3] : List (Fin 4)) (by decide) (by decide)
    (fun t => any c (wbM.slice (partsB t) (partsB_step t)))).symm) (parts_full c cc0_scratch1 partsB partsB_step partsB_apart partsB_all)
theorem shut_C : (roomC c : sProp 𝕄) ⊢ full c cc0_scratch2 :=
  BI.Entails.trans (Entails.of_eq (bigSep_univ_eq_bigSepL ([0, 1, 2, 3, 4] : List (Fin 5)) (by decide) (by decide)
    (fun t => any c (cmM.slice (partsC t) (partsC_step t)))).symm) (parts_full c cc0_scratch2 partsC partsC_step partsC_apart partsC_all)
theorem shut_T : (roomT c : sProp 𝕄) ⊢ full c cc0_scratch3 :=
  BI.Entails.trans (Entails.of_eq (bigSep_univ_eq_bigSepL ([0, 1, 2] : List (Fin 3)) (by decide) (by decide)
    (fun t => any c (xsM.slice (partsT t) (partsT_step t)))).symm) (parts_full c cc0_scratch3 partsT partsT_step partsT_apart partsT_all)

theorem whole_any (b : Ref sig .tc) : (full c b : sProp 𝕄) ⊢ any c (Memref.whole b) := by
  unfold full any some_owned
  iintro ⟨%f, H⟩; iexists f
  ihave H := (Entails.of_eq (whole_pts c b f)) $$ H
  unfold owns; iexists f
  isplitr
  · ipureintro; simp only [Memref.view_whole, View.read_whole]
  iexact H
theorem any_whole (b : Ref sig .tc) : (any c (Memref.whole b) : sProp 𝕄) ⊢ full c b := by
  unfold any full
  refine (some_elim (c : Thread nD τ) (Memref.whole b)).trans ?_
  iintro ⟨%f, H⟩; iexists f
  ihave H := (Entails.of_eq (whole_pts c b f).symm) $$ H
  iexact H

theorem rest_full : (Pipeline.scopedRest cfg0.spec c : sProp 𝕄)
    = iprop(full c cc0_scratch0 ∗ full c cc0_scratch1 ∗ full c cc0_scratch2 ∗ full c cc0_scratch3 ∗ full c cc0_scratch4) :=
  scopedRest0_eq c

theorem rest_open : (Pipeline.scopedRest cfg0.spec c : sProp 𝕄) ⊢ iprop(roomX c ∗ roomB c ∗ roomC c ∗ roomT c ∗ any c wsM) := by
  rw [rest_full]
  exact BI.sep_mono (open_X c) (BI.sep_mono (open_B c) (BI.sep_mono (open_C c) (BI.sep_mono (open_T c) (whole_any c cc0_scratch4))))
theorem rest_shut : iprop(roomX c ∗ roomB c ∗ roomC c ∗ roomT c ∗ any c wsM) ⊢ (Pipeline.scopedRest cfg0.spec c : sProp 𝕄) := by
  rw [rest_full]
  exact BI.sep_mono (shut_X c) (BI.sep_mono (shut_B c) (BI.sep_mono (shut_C c) (BI.sep_mono (shut_T c) (any_whole c cc0_scratch4))))

end Rooms

end Cert.Own

end
-- ==== Proof.Launch.lean ====
/-
  The launch: the kernel's run on the four devices, from any memory, to each device's result.
-/
module

public import proofs.«01_k».proof.Proof.Rooms

@[expose] public section

noncomputable section

namespace Cert.Own

open Cert.KernelIdeal Cert.KernelIdeal.Gen Cert.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device holds before and after -/

abbrev s₀ : MemSt nD τ sig (Elt F) := ⟨m, fun _ => 0, ρ⟩

/-- What a device starts with. -/
def start (c : Dev nD) : sProp 𝕄 :=
  iprop((∃ K, know m K) ∗ RX m c ∗ RW m c ∗ idles c ∗ toks c ∗ places c ∗ dues c)
def Φ₀ (c : Dev nD) : sProp 𝕄 := iprop(start m c ∗ Pipeline.scopedRest cfg0.spec c)
def Φ₁ (c : Dev nD) : sProp 𝕄 := iprop((RX m c ∗ RW m c ∗ zero c bar) ∗ (idles c ∗ zeros c) ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => o8 m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body as the launch takes it -/

section Body
variable (c : Dev nD)

def bodyPre : sProp 𝕄 :=
  iprop(Φ₀ m c ∗ (dats m ρ 0 c).owesAt () t0_0.castSucc ∗ ∃ d, owns (c : Thread nD τ) oM fullShare ((dats m ρ 0 c).before (0 : Fin 1) t0_0 d))
def bodyPost : sProp 𝕄 :=
  iprop(Φ₁ m c ∗ (dats m ρ 0 c).owesAt () t0_0.succ ∗ owns (c : Thread nD τ) oM fullShare (o8 m c))

theorem owed_in : ((dats m ρ 0 c).owesAt () t0_0.castSucc : sProp 𝕄) ⊢ owing c (P1 c) := by
  unfold Dat.owesAt Pipeline.owesWithin owing
  iintro ⟨%W, -, H⟩; iexists W; iexact H
theorem owed_out : (owing c 0 : sProp 𝕄) ⊢ (dats m ρ 0 c).owesAt () t0_0.succ := by
  unfold Dat.owesAt Pipeline.owesWithin owing
  iintro ⟨%W, H⟩; iexists W
  isplitr; · ipureintro; exact fun _ _ => Or.inl trivial
  iexact H

theorem body_in : bodyPre m ρ c ⊢ iprop(∃ K, know m K ∗ before m c) := by
  unfold bodyPre Φ₀ start before
  iintro ⟨⟨⟨⟨%K, Hn⟩, H1, H2, H3, H4, H5, H6⟩, Hr⟩, Ho, ⟨%d, Hout⟩⟩
  ihave Ho := (owed_in m ρ c) $$ Ho
  ihave Hr := (rest_open (F := F) c) $$ Hr
  icases Hr with ⟨R1, R2, R3, R4, R5⟩
  iexists K
  isplitl [Hn]; · iexact Hn
  isplitl [H1]; · iexact H1
  isplitl [H2]; · iexact H2
  isplitl [H3]; · iexact H3
  isplitl [H4]; · iexact H4
  isplitl [H5]; · iexact H5
  isplitl [H6]; · iexact H6
  isplitl [Ho]; · iexact Ho
  isplitl [R1]; · iexact R1
  isplitl [R2]; · iexact R2
  isplitl [R3]; · iexact R3
  isplitl [R4]; · iexact R4
  isplitl [R5]; · iexact R5
  iapply (some_intro (c : Thread nD τ) oM ((dats m ρ 0 c).before (0 : Fin 1) t0_0 d)); iexact Hout

theorem body_out : afterwards m c ⊢ bodyPost m ρ c := by
  unfold bodyPost Φ₁ afterwards
  iintro ⟨H1, H2, H3, H4, H5, Ho, R1, R2, R3, R4, R5, Hout⟩
  isplitr [Ho Hout]
  · isplitl [H1 H2 H5]
    · isplitl [H1]; · iexact H1
      isplitl [H2] <;> iassumption
    isplitl [H3 H4]
    · isplitl [H3] <;> iassumption
    iapply (rest_shut (F := F) c)
    isplitl [R1]; · iexact R1
    isplitl [R2]; · iexact R2
    isplitl [R3]; · iexact R3
    isplitl [R4] <;> iassumption
  isplitl [Ho]
  · iapply (owed_out m ρ c); iexact Ho
  iexact Hout

theorem over_wins (Φ : Fin cfg0.W → sProp 𝕄) : bigSep Finset.univ Φ = Φ (0 : Fin 1) := bigSep_W0 Φ

set_option maxRecDepth 100000 in
theorem body_obligation : BodyObligation (dats (F := F) m ρ 0 c) (defs₀ (F := F)) 𝒱₀ () Set.univ := fun t => by
  rw [fin_N0 t]
  rw [over_wins, over_wins]
  show bodyPre m ρ c ⊢ runs c (cc0_body (F := F) xA (Memref.isWhole_whole _) wA (Memref.isWhole_whole _) oM (Memref.isWhole_whole _)
    xbM (Memref.isWhole_whole _) wbM (Memref.isWhole_whole _) cmM (Memref.isWhole_whole _) xsM (Memref.isWhole_whole _) wsM (Memref.isWhole_whole _)
    cc0_scratch5 cc0_scratch6 cc0_scratch7 cc0_scratch8) (fun _ => bodyPost m ρ c)
  refine (body_in m ρ c).trans ?_
  iintro ⟨%K, H⟩
  iapply (sound_body m K c fun _ => bodyPost m ρ c)
  isplitl [H]; · iexact H
  iintro H
  iapply (body_out m ρ c); iexact H

end Body

/-! ## The side conditions -/

theorem share_eq (c : Dev nD) (w : Fin cfg0.W) : (dats m ρ 0 c).share w = fullShare := by unfold Dat.share; split <;> rfl

theorem read_arg (c : Dev nD) (b : Ref sig .tc) (X : b.ty.Contents (Elt F)) :
    (((c : Thread nD τ).loc b) ↦{fullShare} X : sProp 𝕄) ⊢ readable c (Memref.whole b) X := by
  unfold readable
  iintro H; iexists fullShare
  rw [owns_whole_eq]
  iexists X
  isplitr; · ipureintro; rfl
  iexact H

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄) = _ from unscopedRest0_eq c _]
  unfold start G'
  iintro ⟨⟨Hx, Hw⟩, Hl, Hc, -, ⟨%K, Hm⟩, Hp, Ht, Hi⟩
  ihave Hc := (credits (F := F) c) $$ Hc
  imodintro
  isplitl
  · isplitl [Hm Hl]
    · iexists K; iapply (marks_know m K)
      isplitl [Hm] <;> iassumption
    isplitl [Hx]; · iapply (read_arg c main_arg0 (xv m c)); iexact Hx
    isplitl [Hw]; · iapply (read_arg c main_arg1 (wv m c)); iexact Hw
    isplitl [Hi]; · iexact Hi
    isplitl [Ht]; · iexact Ht
    isplitl [Hp] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

/-- What is kept to the end: the arguments and the barrier semaphore. -/
def kept (c : Dev nD) : sProp 𝕄 := iprop(RX m c ∗ RW m c ∗ unscopedSems0 c)

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl]
  unfold Φ₁ kept
  rw [free_sems]
  exact BI.sep_mono (Entails.refl _) (BI.sep_mono (sems_returned c) (Entails.refl _))

theorem waits (c : Dev nD) : (levAts L lv : sProp 𝕄) ⊢ Pipeline.cellsWaits cfgs (dats m ρ) () 0 c :=
  Pipeline.cellsWaits_intro cfgs (dats m ρ) () 0 c fun w s t => by
    have hl : lvl (dec (.dma ((cfg0.win w).sem s))) = 0 := by fin_cases w; fin_cases s <;> decide
    refine mayWait c _ ?_
    rw [hl]
    rcases t with ⟨_ | _, ht⟩
    · exact above_O₀ c
    · exact Above.zero 0

/-! ## The run -/

theorem arg_still (c : Dev nD) (b : Ref sig .tc) (X : b.ty.Contents (Elt F)) (s' : Phys nD τ sig (Elt F)) :
    iprop(readable c (Memref.whole b) X ∗ SI s') ⊢ (iprop(⌜s'.mem.mem ((c : Thread nD τ).loc b) = X⌝ ∗ SI s') : sProp 𝕄) := by
  unfold readable
  simp only [owns_whole_eq]
  iintro ⟨⟨%q, %f, %hf, H⟩, HS⟩
  ihave H := (pointsTo_read_all ({()} : Finset Unit) (fun _ => (c : Thread nD τ).loc b) (fun _ => f) s' q) $$ [H HS]
  · isplitl [H]
    · rw [bigSep_singleton]; iexact H
    iexact HS
  icases H with ⟨%h, HS⟩
  isplitr
  · ipureintro; exact (h () (Finset.mem_singleton_self _)).trans hf
  iexact HS

/-- What is read at the end besides the result. -/
def Still (c : Dev nD) (s : MemSt nD τ sig (Elt F)) : Prop :=
  s.mem ((c : Thread nD τ).loc main_arg0) = xv m c ∧ s.mem ((c : Thread nD τ).loc main_arg1) = wv m c
    ∧ ∀ sm : SemLoc sig, sm.isScoped .tc = false → s.sem ((c.tc : Thread nD τ), sm) = 0

theorem still (c : Dev nD) (s' : Phys nD τ sig (Elt F)) :
    iprop(kept m c ∗ emp ∗ SI s') ⊢ (|={Set.univ}=> iprop(⌜Still m c s'.mem⌝ ∗ SI s') : sProp 𝕄) := by
  unfold kept
  iintro ⟨⟨Hx, Hw, Hu⟩, -, HS⟩
  ihave H := (arg_still c main_arg0 (xv m c) s') $$ [Hx HS]
  · isplitl [Hx] <;> iassumption
  icases H with ⟨%hx, HS⟩
  ihave H := (arg_still c main_arg1 (wv m c) s') $$ [Hw HS]
  · isplitl [Hw] <;> iassumption
  icases H with ⟨%hw, HS⟩
  imod (Pipeline.unscopedSems0_read (X := unscopedSems0 c) (c := c) fupd_intro s') $$ [Hu HS] with ⟨%hu, HS⟩
  · isplitl [Hu] <;> iassumption
  imodintro
  isplitr
  · ipureintro; exact ⟨hx, hw, hu⟩
  iexact HS

/-- The result array at the end. -/
theorem result (c : Dev nD) : (dats m ρ 0 c).arrAt (0 : Fin 1) cfg0.N = o8 m c := by
  have hz : (fun a => (win0_0.index t0_0) a * main_v1.ty.shape.size a) = fun _ => 0 := funext fun a => by fin_cases a <;> decide
  have hr := fun f => Memref.read_access_unit_zero (Elt F) main_v1 hz (fun a => by fin_cases a <;> decide) f
  have ho : (win0_0.blk t0_0).view.read (Elt F) ((dats m ρ 0 c).arrAt (0 : Fin 1) cfg0.N) = o8 m c := by
    rw [show cfg0.N = t0_0.val + 1 from N_0, (dats m ρ 0 c).arrAt_succ (0 : Fin 1) t0_0, if_pos (flush0_0 t0_0)]
    exact View.read_write_univ _ _
  exact (hr _).symm.trans ho

/-- Every result, the arguments kept, every semaphore at zero. -/
def Done (s : MemSt nD τ sig (Elt F)) : Prop :=
  (∀ c : Dev nD, s.mem ((c : Thread nD τ).loc main_v1) = o8 m c
    ∧ s.mem ((c : Thread nD τ).loc main_arg0) = m ((c : Thread nD τ).loc main_arg0) ∧ s.mem ((c : Thread nD τ).loc main_arg1) = m ((c : Thread nD τ).loc main_arg1))
  ∧ s.sem = fun _ => 0

set_option maxRecDepth 8000 in
theorem run_main : θ_run defs (onTc (τ := τ) (main (F := F))) (s₀ m ρ) (fun r => Done m r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀) (hu₀ := fund m) (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := Still m) (hY := still m)
    (hQ := fun _ h hs => ⟨fun c => ⟨((h c).1 (0 : Fin 1)).trans (result m ρ c), (h c).2.2.1, (h c).2.2.2.1⟩, sem_eq_zero hs fun c => (h c).2.2.2.2⟩)

end Cert.Own

end
-- ==== Proof.Same.lean ====
/-
  The kernel as printed and the kernel read over the extended reals are one text: their bodies are equal.
-/
module

public import proofs.«01_k».proof.Defs
public import proofs.«01_k».proof.Proof.Gen.Kernel
public import proofs.«01_k».proof.Proof.Launch

@[expose] public section

noncomputable section

namespace Cert.Own

open Idealize.ShloMosaic Idealize.SL.Sem

variable {F : FTy → Type} [FloatOps F]

theorem same_body : Cert.Kernel.cc0_body (F := F) = Cert.KernelIdeal.cc0_body (F := F) := rfl

theorem same_defs₀ : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

theorem same_defs : Cert.Kernel.defs (F := F) = Cert.KernelIdeal.defs (F := F) :=
  congrArg (Pipeline.defs Cert.KernelIdeal.pcfgs) same_defs₀

/-- The kernel as printed ends as the run says, for any float values. -/
theorem run_printed (m : (ℓ : Loc Cert.KernelIdeal.nD Cert.KernelIdeal.τ Cert.KernelIdeal.sig) → Buf (Elt F) ℓ) (ρ : Dev Cert.KernelIdeal.nD → PrngReg) :
    θ_run (Cert.Kernel.defs (F := F)) (onTc (τ := Cert.KernelIdeal.τ) (Cert.KernelIdeal.main (F := F))) (s₀ m ρ) (fun r => Done m r.2) := by
  rw [same_defs]
  exact run_main m ρ

end Cert.Own

end
-- ==== Proof.Factors.lean ====
/-
  The factors of the four products over the extended reals: each converted block read at an index is an entry of a device's share of the
  first matrix, or of the second matrix.
-/
module

public import proofs.«01_k».proof.Proof.Launch
public import proofs.«01_k».proof.Defs
public import Idealize.ShloMosaic.Lib.MatmulPlain
public import Idealize.ShloMosaic.Lib.ValueIdx
public import Idealize.ShloMosaic.Lib.Pipeline.Value

@[expose] public section

noncomputable section

namespace Cert.Own

open Cert.KernelIdeal Cert.KernelIdeal.Gen Cert.Steps
open Idealize.ShloMosaic Idealize.ShloMosaic.TcCoe Idealize.ShloMosaic.ValueIdx
open Idealize.SL.Sem
open scoped BigOperators

/-! ## Indices -/

/-- Row `r` of device `c`'s rows. -/
def row (c : Dev nD) (r : Fin 1024) : Fin 4096 := ⟨1024 * c.val + r.val, by
  have h : c.val < 4 := c.isLt
  have := r.isLt
  omega⟩
/-- The rows of the lower and the upper half of a block. -/
def low (r : Fin 512) : Fin 1024 := ⟨r.val, by omega⟩
def high (r : Fin 512) : Fin 1024 := ⟨512 + r.val, by omega⟩

/-- A block of consecutive rows and columns, at an index. -/
theorem unit_at {R C a b : ℕ} (off : Fin 2 → ℕ) (h) (r : Fin a) (k : Fin b) (r' : Fin R) (k' : Fin C)
    (hr : r'.val = off 0 + r.val) (hk : k'.val = off 1 + k.val) :
    (Rect.unit (s := ⟨2, ![R, C]⟩) off ![a, b] h).emb (ix2 r k) = ix2 r' k' := by
  funext x; apply Fin.ext; rw [Rect.emb_apply]
  match x with
  | ⟨0, _⟩ => simpa [Rect.unit] using hr.symm
  | ⟨1, _⟩ => simpa [Rect.unit] using hk.symm

theorem off_A (c : Dev nD) : k0_off1 (rot 3 c) 0#32 = ![1024 * c.val, 0] := by revert c; decide +kernel
theorem off_B (c : Dev nD) : k0_off1 (rot 3 c) 512#32 = ![1024 * c.val + 512, 0] := by revert c; decide +kernel
theorem off_C (c : Dev nD) : k0_off2 (rot 2 c) 2#32 = ![1024 * c.val, 0] := by revert c; decide +kernel
theorem off_D (c : Dev nD) : k0_off2 (rot 1 c) 3#32 = ![1024 * c.val, 0] := by revert c; decide +kernel
theorem off_E (c : Dev nD) : k0_off3 c = ![1024 * c.val, 0] := by revert c; decide +kernel
theorem off_W0 (c : Dev nD) : k0_off4 c = ![1024 * c.val, 0] := by revert c; decide +kernel
theorem off_W1 (c : Dev nD) : k0_off5 c 1#32 = ![1024 * (rot 3 c).val, 0] := by revert c; decide +kernel
theorem off_W2 (c : Dev nD) : k0_off5 c 2#32 = ![1024 * (rot 2 c).val, 0] := by revert c; decide +kernel
theorem off_W3 (c : Dev nD) : k0_off5 c 3#32 = ![1024 * (rot 1 c).val, 0] := by revert c; decide +kernel

variable (m : (ℓ : Loc nD τ sig) → Buf (Elt Ideal) ℓ)

/-! ## The factors -/

/-- Rows staged, converted and stored under a leading axis, read back without it: over the reals, the rows. -/
theorem converted {s t : Shape} (X : s.Idx → Ideal .f32) (h : t.numel = s.numel) (h₁ : t.ShapeCasts s) (h₂ : s.ShapeCasts t) (h₃ : t.ShapeCasts s)
    (hb : FTy.bits .bf16 < FTy.bits .f32) :
    shapeCast s (shapeCast t (truncf (F := Ideal) .bf16 (shapeCast s (recast h X : FVec Ideal t .f32) h₁) hb) h₂) h₃ = fun j => (X j : EReal) := by
  rw [shapeCast_shapeCast]
  funext j
  exact congrFun (shapeCast_shapeCast X h₂ h₁) j

theorem converted_w {s t : Shape} (X : s.Idx → Ideal .f32) (h₂ : s.ShapeCasts t) (h₃ : t.ShapeCasts s) (hb : FTy.bits .bf16 < FTy.bits .f32) :
    shapeCast s (shapeCast t (truncf (F := Ideal) .bf16 (X : FVec Ideal s .f32) hb) h₂) h₃ = fun j => (X j : EReal) := by
  rw [shapeCast_shapeCast]; rfl

theorem val_A (c : Dev nD) (r : Fin 512) (k : Fin 1024) (h) :
    shapeCast S512x1024 (cA m (rot 3 c)) h (ix2 r k) = xv m (rot 3 c) (ix2 (row c (low r)) k) := by
  unfold cA k0_pay1 vA
  refine (congrFun (converted _ _ _ _ _ _) (ix2 r k)).trans ?_
  refine congrArg (xv m (rot 3 c)) (unit_at _ _ _ _ _ _ ?_ ?_) <;> rw [off_A] <;> simp [row, low]

theorem val_B (c : Dev nD) (r : Fin 512) (k : Fin 1024) (h) :
    shapeCast S512x1024 (cB m (rot 3 c)) h (ix2 r k) = xv m (rot 3 c) (ix2 (row c (high r)) k) := by
  unfold cB k0_pay2 vB
  refine (congrFun (converted _ _ _ _ _ _) (ix2 r k)).trans ?_
  refine congrArg (xv m (rot 3 c)) (unit_at _ _ _ _ _ _ ?_ ?_) <;> rw [off_B] <;> simp [row, high] <;> omega

theorem val_C (c : Dev nD) (r : Fin 1024) (k : Fin 1024) (h) :
    shapeCast S1024x1024 (cC m (rot 2 c)) h (ix2 r k) = xv m (rot 2 c) (ix2 (row c r) k) := by
  unfold cC k0_pay3 vC
  refine (congrFun (converted _ _ _ _ _ _) (ix2 r k)).trans ?_
  refine congrArg (xv m (rot 2 c)) (unit_at _ _ _ _ _ _ ?_ ?_) <;> rw [off_C] <;> simp [row]

theorem val_D (c : Dev nD) (r : Fin 1024) (k : Fin 1024) (h : S1x1024x1024.ShapeCasts S1024x1024) :
    shapeCast S1024x1024 (cD m (rot 1 c)) h (ix2 r k) = xv m (rot 1 c) (ix2 (row c r) k) := by
  unfold cD k0_pay4 vD
  refine (congrFun (converted _ _ _ _ _ _) (ix2 r k)).trans ?_
  refine congrArg (xv m (rot 1 c)) (unit_at _ _ _ _ _ _ ?_ ?_) <;> rw [off_D] <;> simp [row]

theorem val_E (c : Dev nD) (r : Fin 1024) (k : Fin 1024) (h) :
    shapeCast S1024x1024 (cE m c) h (ix2 r k) = xv m c (ix2 (row c r) k) := by
  unfold cE k0_pay5 vE
  refine (congrFun (converted _ _ _ _ _ _) (ix2 r k)).trans ?_
  refine congrArg (xv m c) (unit_at _ _ _ _ _ _ ?_ ?_) <;> rw [off_E] <;> simp [row]

/-- The two halves of the rows of the last message. -/
theorem val_Da (c : Dev nD) (r : Fin 512) (k : Fin 1024) (h) :
    shapeCast S512x1024 (cDa m (rot 1 c)) h (ix2 r k) = xv m (rot 1 c) (ix2 (row c (low r)) k) := by
  refine Eq.trans ?_ (val_D m c (low r) k shapeCasts_S1x1024x1024_S1024x1024)
  refine (shapeCast_dropUnit_apply ![512, 1024] _ h (ix2 r k)).trans (Eq.trans ?_ (shapeCast_dropUnit_apply ![1024, 1024] _ _ (ix2 (low r) k)).symm)
  unfold cDa
  refine congrArg (cD m (rot 1 c)) ?_
  funext x; apply Fin.ext; rw [Rect.emb_apply]
  match x with
  | ⟨0, _⟩ => rfl
  | ⟨1, _⟩ => simp [Rect.unit, low]; rfl
  | ⟨2, _⟩ => simp [Rect.unit]; rfl

theorem val_Db (c : Dev nD) (r : Fin 512) (k : Fin 1024) (h) :
    shapeCast S512x1024 (cDb m (rot 1 c)) h (ix2 r k) = xv m (rot 1 c) (ix2 (row c (high r)) k) := by
  refine Eq.trans ?_ (val_D m c (high r) k shapeCasts_S1x1024x1024_S1024x1024)
  refine (shapeCast_dropUnit_apply ![512, 1024] _ h (ix2 r k)).trans (Eq.trans ?_ (shapeCast_dropUnit_apply ![1024, 1024] _ _ (ix2 (high r) k)).symm)
  unfold cDb
  refine congrArg (cD m (rot 1 c)) ?_
  funext x; apply Fin.ext; rw [Rect.emb_apply]
  match x with
  | ⟨0, _⟩ => rfl
  | ⟨1, _⟩ => simp [Rect.unit, high]; rfl
  | ⟨2, _⟩ => simp [Rect.unit]; rfl

theorem val_b0 (c : Dev nD) (k : Fin 1024) (n : Fin 2048) (h) : shapeCast S1024x2048 (b0 m c) h (ix2 k n) = wv m c (ix2 (row c k) n) := by
  unfold b0 k0_pay6 w0
  refine (congrFun (converted_w _ _ _ _) (ix2 k n)).trans ?_
  refine congrArg (wv m c) (unit_at _ _ _ _ _ _ ?_ ?_) <;> rw [off_W0] <;> simp [row]
theorem val_b1 (c : Dev nD) (k : Fin 1024) (n : Fin 2048) (h) : shapeCast S1024x2048 (b1 m c) h (ix2 k n) = wv m c (ix2 (row (rot 3 c) k) n) := by
  unfold b1 k0_pay8 w1
  refine (congrFun (converted_w _ _ _ _) (ix2 k n)).trans ?_
  refine congrArg (wv m c) (unit_at _ _ _ _ _ _ ?_ ?_) <;> rw [off_W1] <;> simp [row]
theorem val_b2 (c : Dev nD) (k : Fin 1024) (n : Fin 2048) (h) : shapeCast S1024x2048 (b2 m c) h (ix2 k n) = wv m c (ix2 (row (rot 2 c) k) n) := by
  unfold b2 k0_pay11 w2
  refine (congrFun (converted_w _ _ _ _) (ix2 k n)).trans ?_
  refine congrArg (wv m c) (unit_at _ _ _ _ _ _ ?_ ?_) <;> rw [off_W2] <;> simp [row]
theorem val_b3 (c : Dev nD) (k : Fin 1024) (n : Fin 2048) (h) : shapeCast S1024x2048 (b3 m c) h (ix2 k n) = wv m c (ix2 (row (rot 1 c) k) n) := by
  unfold b3 k0_pay13 w3
  refine (congrFun (converted_w _ _ _ _) (ix2 k n)).trans ?_
  refine congrArg (wv m c) (unit_at _ _ _ _ _ _ ?_ ?_) <;> rw [off_W3] <;> simp [row]

end Cert.Own

end
-- ==== Proof.Sums.lean ====
/-
  The accumulator over the extended reals, step by step: at row r and column n the sum of the products added so far, and at the end the
  relu of the four of them.
-/
module

public import proofs.«01_k».proof.Proof.Factors
public import proofs.«01_k».proof.Defs
public import Idealize.ShloMosaic.Lib.MatmulPlain
public import Idealize.ShloMosaic.Lib.ValueIdx
public import Idealize.ShloMosaic.Lib.Pipeline.Value

@[expose] public section

noncomputable section

namespace Cert.Own

open Cert.KernelIdeal Cert.KernelIdeal.Gen Cert.Steps
open Idealize.ShloMosaic Idealize.ShloMosaic.TcCoe Idealize.ShloMosaic.ValueIdx
open Idealize.SL.Sem
open scoped BigOperators

variable (m : (ℓ : Loc nD τ sig) → Buf (Elt Ideal) ℓ)

/-! ## The payloads at an index -/

/-- A product into the zero splat. -/
theorem product {M : ℕ} (d : DotDims ⟨2, ![M, 1024]⟩ ⟨2, ![1024, 2048]⟩ ⟨2, ![M, 2048]⟩) (hd : d = DotDims.plain M 1024 2048)
    (A : FVec Ideal ⟨2, ![M, 1024]⟩ .bf16) (B : FVec Ideal ⟨2, ![1024, 2048]⟩ .bf16) (r : Fin M) (n : Fin 2048) :
    FloatOps.matmul d none A B (constant ⟨2, ![M, 2048]⟩ .f32 0x00000000#32) (ix2 r n) = ∑ k : Fin 1024, A (ix2 r k) * B (ix2 k n) := by
  subst hd
  rw [Ideal.matmul_plain_apply]
  show Ideal.ofBits .f32 0x00000000#32 + _ = _
  rw [Ideal.ofBits_zero_f32, zero_add]

theorem pay7_at (A : Vec Ideal S1x1024x1024 .bf16) (B : Vec Ideal S1x1024x2048 .bf16) (r : Fin 1024) (n : Fin 2048) :
    k0_pay7 A B (ix2 r n) = ∑ k : Fin 1024, shapeCast S1024x1024 A shapeCasts_S1x1024x1024_S1024x1024 (ix2 r k)
      * shapeCast S1024x2048 B shapeCasts_S1x1024x2048_S1024x2048 (ix2 k n) :=
  product dot_S1024x1024_S1024x2048_S1024x2048_1_0_0_1_n_n rfl _ _ r n

theorem pay12_at (V : Vec Ideal S1024x2048 .f32) (A : Vec Ideal S1x1024x1024 .bf16) (B : Vec Ideal S1x1024x2048 .bf16) (r : Fin 1024) (n : Fin 2048) :
    k0_pay12 V A B (ix2 r n) = V (ix2 r n) + ∑ k : Fin 1024, shapeCast S1024x1024 A shapeCasts_S1x1024x1024_S1024x1024 (ix2 r k)
      * shapeCast S1024x2048 B shapeCasts_S1x1024x2048_S1024x2048 (ix2 k n) := by
  refine congrArg₂ (fun a b : EReal => a + b) ?_ (product dot_S1024x1024_S1024x2048_S1024x2048_1_0_0_1_n_n rfl _ _ r n)
  rw [shapeCast_self]

theorem pay9_at (V : Vec Ideal S512x2048 .f32) (A : Vec Ideal S1x512x1024 .bf16) (B : Vec Ideal S1x1024x2048 .bf16) (r : Fin 512) (n : Fin 2048) :
    k0_pay9 V A B (ix2 r n) = V (ix2 r n) + ∑ k : Fin 1024, shapeCast S512x1024 A shapeCasts_S1x512x1024_S512x1024 (ix2 r k)
      * shapeCast S1024x2048 B shapeCasts_S1x1024x2048_S1024x2048 (ix2 k n) := by
  refine congrArg₂ (fun a b : EReal => a + b) ?_ (product dot_S512x1024_S1024x2048_S512x2048_1_0_0_1_n_n rfl _ _ r n)
  rw [shapeCast_self]

theorem pay15_at (V : Vec Ideal S512x2048 .f32) (i : S512x2048.Idx) : k0_pay15 V i = max (V i : EReal) 0 := by
  unfold k0_pay15
  rw [shapeCast_self]
  refine congrArg (fun a : EReal => max (V i) a) ?_
  exact Ideal.ofBits_zero_f32

/-! ## The two halves of the rows -/

theorem halves {p : Fin 1024 → Prop} (h₁ : ∀ q, p (low q)) (h₂ : ∀ q, p (high q)) (r : Fin 1024) : p r := by
  by_cases h : r.val < 512
  · exact (show low ⟨r.val, h⟩ = r from rfl) ▸ h₁ ⟨r.val, h⟩
  · have hr := r.isLt
    have e : high ⟨r.val - 512, by omega⟩ = r := by apply Fin.ext; simp only [high]; omega
    exact e ▸ h₂ ⟨r.val - 512, by omega⟩

theorem lo_emb (q : Fin 512) (n : Fin 2048) : rLo.emb (ix2 q n) = ix2 (low q) n := unit_at _ _ _ _ _ _ (by simp [low]) (by simp)
theorem hi_emb (q : Fin 512) (n : Fin 2048) : rHi.emb (ix2 q n) = ix2 (high q) n := unit_at _ _ _ _ _ _ (by simp [high]) (by simp)

theorem lo_low {α : Type} (X : S1024x2048.Idx → α) (G : S512x2048.Idx → α) (q : Fin 512) (n : Fin 2048) :
    rLo.overlay X G (ix2 (low q) n) = G (ix2 q n) := by rw [← lo_emb]; exact Rect.overlay_emb rLo X G (ix2 q n)
theorem hi_high {α : Type} (X : S1024x2048.Idx → α) (G : S512x2048.Idx → α) (q : Fin 512) (n : Fin 2048) :
    rHi.overlay X G (ix2 (high q) n) = G (ix2 q n) := by rw [← hi_emb]; exact Rect.overlay_emb rHi X G (ix2 q n)
theorem lo_high {α : Type} (X : S1024x2048.Idx → α) (G : S512x2048.Idx → α) (q : Fin 512) (n : Fin 2048) :
    rLo.overlay X G (ix2 (high q) n) = X (ix2 (high q) n) := by
  refine Rect.overlay_of_not_mem rLo X G fun h => ?_
  have h := (Rect.mem_set_unit.1 h 0).2
  have h : 512 + q.val < 0 + 512 := h
  omega
theorem hi_low {α : Type} (X : S1024x2048.Idx → α) (G : S512x2048.Idx → α) (q : Fin 512) (n : Fin 2048) :
    rHi.overlay X G (ix2 (low q) n) = X (ix2 (low q) n) := by
  refine Rect.overlay_of_not_mem rHi X G fun h => ?_
  have h := (Rect.mem_set_unit.1 h 0).1
  have h : 512 ≤ q.val := h
  have := q.isLt
  omega

/-! ## The accumulator -/

/-- What the columns of device `s` add to device `c`'s result. -/
def part (c s : Dev nD) (r : Fin 1024) (n : Fin 2048) : EReal :=
  ∑ k : Fin 1024, (xv m s (ix2 (row c r) k) : EReal) * wv m c (ix2 (row s k) n)

theorem o1_at (c : Dev nD) (r : Fin 1024) (n : Fin 2048) : o1 m c (ix2 r n) = part m c c r n :=
  (pay7_at (cE m c) (b0 m c) r n).trans (Finset.sum_congr rfl fun k _ => by rw [val_E, val_b0])

theorem o3_at (c : Dev nD) (r : Fin 1024) (n : Fin 2048) : o3 m c (ix2 r n) = part m c c r n + part m c (rot 3 c) r n := by
  unfold o3 o2
  refine halves (p := fun r => rHi.overlay _ _ (ix2 r n) = part m c c r n + part m c (rot 3 c) r n) (fun q => ?_) (fun q => ?_) r
  · rw [hi_low, lo_low, pay9_at, lo_emb, o1_at]
    exact congrArg _ (Finset.sum_congr rfl fun k _ => by rw [val_A, val_b1])
  · rw [hi_high]
    refine (pay9_at _ (cB m (rot 3 c)) (b1 m c) q n).trans ?_
    rw [hi_emb, lo_high, o1_at]
    exact congrArg _ (Finset.sum_congr rfl fun k _ => by rw [val_B, val_b1])

theorem o4_at (c : Dev nD) (r : Fin 1024) (n : Fin 2048) :
    o4 m c (ix2 r n) = part m c c r n + part m c (rot 3 c) r n + part m c (rot 2 c) r n := by
  refine (pay12_at (o3 m c) (cC m (rot 2 c)) (b2 m c) r n).trans ?_
  rw [o3_at]
  exact congrArg _ (Finset.sum_congr rfl fun k _ => by rw [val_C, val_b2])

theorem o5_low (c : Dev nD) (q : Fin 512) (n : Fin 2048) :
    o5 m c (ix2 (low q) n) = o4 m c (ix2 (low q) n) + part m c (rot 1 c) (low q) n := by
  unfold o5
  rw [lo_low]
  refine (pay9_at _ (cDa m (rot 1 c)) (b3 m c) q n).trans ?_
  rw [lo_emb]
  exact congrArg _ (Finset.sum_congr rfl fun k _ => by rw [val_Da, val_b3])

theorem o6_high (c : Dev nD) (q : Fin 512) (n : Fin 2048) : o6 m c (ix2 (high q) n) = o4 m c (ix2 (high q) n) := by
  unfold o6 o5
  rw [lo_high, lo_high]

theorem o7_high (c : Dev nD) (q : Fin 512) (n : Fin 2048) :
    o7 m c (ix2 (high q) n) = o4 m c (ix2 (high q) n) + part m c (rot 1 c) (high q) n := by
  unfold o7
  rw [hi_high]
  refine (pay9_at _ (cDb m (rot 1 c)) (b3 m c) q n).trans ?_
  rw [hi_emb, o6_high]
  exact congrArg _ (Finset.sum_congr rfl fun k _ => by rw [val_Db, val_b3])

/-- The result of device `c` at row `r` and column `n`. -/
theorem o8_at (c : Dev nD) (r : Fin 1024) (n : Fin 2048) :
    o8 m c (ix2 r n) = max (part m c c r n + part m c (rot 3 c) r n + part m c (rot 2 c) r n + part m c (rot 1 c) r n) 0 := by
  refine halves (p := fun r => o8 m c (ix2 r n)
    = max (part m c c r n + part m c (rot 3 c) r n + part m c (rot 2 c) r n + part m c (rot 1 c) r n) 0) (fun q => ?_) (fun q => ?_) r
  · unfold o8 o7 o6
    rw [hi_low, hi_low, lo_low, pay15_at, lo_emb, o5_low, o4_at]
  · unfold o8
    rw [hi_high]
    refine (pay15_at _ (ix2 q n)).trans ?_
    rw [hi_emb, o7_high, o4_at]

end Cert.Own

end
-- ==== Proof.Value.lean ====
/-
  Each device's result is its block of rows of the relu of the whole product: a sum over 4096 columns is the sum over the four devices'
  blocks of 1024, in any order.
-/
module

public import proofs.«01_k».proof.Proof.Sums
public import proofs.«01_k».proof.Proof.Gen.ReferenceIdeal.Run
public import Idealize.ShloMosaic.Lib.StackMember
public import Idealize.ShloMosaic.Lib.Pointwise.Sums
public import proofs.«01_k».proof.Defs
public import Idealize.ShloMosaic.Lib.MatmulPlain
public import Idealize.ShloMosaic.Lib.ValueIdx
public import Idealize.ShloMosaic.Lib.Pipeline.Value

@[expose] public section

noncomputable section

namespace Cert.Own

open Cert.KernelIdeal Cert.KernelIdeal.Gen Cert.Steps
open Idealize.ShloMosaic hiding ix2 eq_ix2
open Idealize.ShloMosaic.TcCoe Idealize.ShloMosaic.ValueIdx
open Idealize.SL.Sem
open scoped BigOperators

/-- The reference's result as a function of the two whole matrices. -/
def refVal (x : FVec Ideal ⟨2, ![4096, 4096]⟩ .f32) (w : FVec Ideal ⟨2, ![4096, 2048]⟩ .f32) : FVec Ideal ⟨2, ![4096, 2048]⟩ .f32 :=
  maximumf (extf .f32 (truncf .bf16 (Host.dotGeneral Cert.ReferenceIdeal.dot_S4096x4096_S4096x2048_S4096x2048_1_0_0_1_n_n none
    (truncf .bf16 x Cert.ReferenceIdeal.Gen.facts.bitsLt_bf16_f32) (truncf .bf16 w Cert.ReferenceIdeal.Gen.facts.bitsLt_bf16_f32))
    Cert.ReferenceIdeal.Gen.facts.bitsLt_bf16_f32) Cert.ReferenceIdeal.Gen.facts.bitsLt_bf16_f32)
    (broadcastInDim Cert.ReferenceIdeal.S4096x2048 ![] Cert.ReferenceIdeal.Gen.facts.bcast_S_S4096x2048
      (constant Cert.ReferenceIdeal.S_ .f32 0x00000000#32))

theorem refVal_at (x : FVec Ideal ⟨2, ![4096, 4096]⟩ .f32) (w : FVec Ideal ⟨2, ![4096, 2048]⟩ .f32) (a : Fin 4096) (n : Fin 2048) :
    refVal x w (ix2 a n) = max (∑ k : Fin 4096, x (ix2 a k) * w (ix2 k n)) 0 := by
  refine congrArg₂ (fun a b : EReal => max a b) ?_ Ideal.ofBits_zero_f32
  exact StackMember.dotGeneral_plain_apply (m := 4096) (k := 4096) (n := 2048) none (truncf (F := Ideal) .bf16 x _) (truncf (F := Ideal) .bf16 w _) a n

/-- A sum over the four devices, from any one of them on. -/
theorem sum_from (c : Dev nD) (f : Dev nD → EReal) : ∑ s : Fin 4, f s = f c + f (rot 3 c) + f (rot 2 c) + f (rot 1 c) := by
  have h : ∀ (a b d e : Fin 4) (g : Fin 4 → EReal), [a, b, d, e].Perm [0, 1, 2, 3] → ∑ s : Fin 4, g s = g a + g b + g d + g e := by
    intro a b d e g hp
    have := (hp.map g).sum_eq
    simp only [List.map, List.sum_cons, List.sum_nil, add_zero] at this
    rw [Fin.sum_univ_four, add_assoc, add_assoc, ← this, add_assoc, add_assoc]
  refine h c (rot 3 c) (rot 2 c) (rot 1 c) f ?_
  revert c
  decide +kernel

variable (m : (ℓ : Loc nD τ sig) → Buf (Elt Ideal) ℓ)

/-- Where block `c`'s row `r` is in the whole result, and block `c`'s column `k` in the whole first matrix. -/
theorem row_idx (h : Layout.Tiles ⟨2, ![1024, 2048]⟩ ⟨2, ![4096, 2048]⟩ 0 4) (c : Fin 4) (r : Fin 1024) (n : Fin 2048) :
    h.idx c (ix2 r n) = ix2 (row c r) n := by
  funext b; apply Fin.ext; rw [Layout.Tiles.idx_val]
  match b with
  | ⟨0, _⟩ => exact congrArg (· + r.val) (Nat.mul_comm c.val 1024)
  | ⟨1, _⟩ => rfl

theorem col_idx (h : Layout.Tiles ⟨2, ![4096, 1024]⟩ ⟨2, ![4096, 4096]⟩ 1 4) (c : Fin 4) (a : Fin 4096) (k : Fin 1024) :
    h.idx c (ix2 a k) = ix2 a (row c k) := by
  funext b; apply Fin.ext; rw [Layout.Tiles.idx_val]
  match b with
  | ⟨0, _⟩ => rfl
  | ⟨1, _⟩ => exact congrArg (· + k.val) (Nat.mul_comm c.val 1024)

theorem result_block (x : FVec Ideal ⟨2, ![4096, 4096]⟩ .f32) (w : FVec Ideal ⟨2, ![4096, 2048]⟩ .f32)
    (hx : ∀ s : Dev nD, xv m s = Layout.block ⟨2, ![4096, 1024]⟩ ⟨2, ![4096, 4096]⟩ 1 4 s x) (hw : ∀ s : Dev nD, wv m s = w) (c : Dev nD) :
    o8 m c = Layout.block ⟨2, ![1024, 2048]⟩ ⟨2, ![4096, 2048]⟩ 0 4 c (refVal x w) := by
  have hp : ∀ (s : Dev nD) (r : Fin 1024) (n : Fin 2048), part m c s r n = ∑ k : Fin 1024, x (ix2 (row c r) (row s k)) * w (ix2 (row s k) n) := by
    intro s r n
    unfold part
    rw [hx, hw]
    refine Finset.sum_congr rfl fun k _ => ?_
    rw [Layout.block_apply, col_idx]
  funext i
  obtain ⟨r, n, rfl⟩ : ∃ (r : Fin 1024) (n : Fin 2048), i = ix2 r n := ⟨i 0, i 1, eq_ix2 i⟩
  rw [o8_at, Layout.block_apply, row_idx, refVal_at, ← sum_from c (fun s => part m c s r n)]
  refine congrArg (fun a : EReal => max a 0) ?_
  rw [Fin.sum_univ_tiles 4 1024 rfl]
  refine Finset.sum_congr rfl fun s _ => (hp s r n).trans (Finset.sum_congr rfl fun k _ => ?_)
  have e : (row s k : Fin 4096) = ⟨s.val * 1024 + k.val, by have := s.isLt; have := k.isLt; omega⟩ := by
    apply Fin.ext; simp only [row]; omega
  rw [e]

end Cert.Own

end
-- ==== Proof.lean ====
/-
  The certificate: a fused all-to-all, product and relu on four devices. The kernel's run is in Proof/Launch.lean,
  and its value in Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed: terminates, arguments kept, every semaphore at zero. -/
theorem frame_kernel : Cert.quiescent_Kernel := fun m ρ _ =>
  (θ_run Cert.Kernel.defs _ _).mono (fun _ h => ⟨fun c => (h.1 c).2, h.2⟩) (Cert.Own.run_printed (F := Bits) m ρ)

/-- The same for the kernel read over the extended reals. -/
theorem frame_ideal : Cert.quiescent_KernelIdeal := fun m ρ _ =>
  (θ_run Cert.KernelIdeal.defs _ _).mono (fun _ h => ⟨fun c => (h.1 c).2, h.2⟩) (Cert.Own.run_main (F := Ideal) m ρ)

/-- The same for the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its rows of the reference's, when its columns of the first matrix are the reference's. -/
theorem value : Cert.algebraic_KernelIdeal_ReferenceIdeal := fun m ρ m' ρ' _ h =>
  ⟨Cert.Own.refVal (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ H c => ⟨(H.1 c).1.trans (Cert.Own.result_block m _ _ (fun s => (h s).1) (fun s => (h s).2) c), (H.1 c).2⟩)
      (Cert.Own.run_main (F := Ideal) m ρ),
    (θ_run Cert.ReferenceIdeal.defs _ _).mono (fun _ H => H 0) (Cert.ReferenceIdeal.Value.run (F := Ideal) m' ρ')⟩

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
